-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 1024]⟩ ⟨2, ![512, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 1024]⟩ ⟨2, ![512, 16384]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 1024]⟩ ⟨2, ![512, 16384]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512 : Shape := ⟨2, ![64, 512]⟩
abbrev S512x1024 : Shape := ⟨2, ![512, 1024]⟩
abbrev S1024x512 : Shape := ⟨2, ![1024, 512]⟩
abbrev S96x16x512 : Shape := ⟨3, ![96, 16, 512]⟩
abbrev S24x3 : Shape := ⟨2, ![24, 3]⟩
abbrev S_ : Shape := ⟨0, ![]⟩
abbrev S16x512 : Shape := ⟨2, ![16, 512]⟩
abbrev S16x1024 : Shape := ⟨2, ![16, 1024]⟩
abbrev S1x16x512 : Shape := ⟨3, ![1, 16, 512]⟩
abbrev S1x1 : Shape := ⟨2, ![1, 1]⟩

abbrev nBuf : Space → Nat
  | .hbm => 8
  | .vmem => 9
  | .smem => 0
  | _ => 0

abbrev bufTy : (tb : Table) → Fin (tcTables nBuf tb) → BufTy
  | .hbm, ⟨0, _⟩ => ⟨S64x512, .f32⟩
  | .hbm, ⟨1, _⟩ => ⟨S512x1024, .bf16⟩
  | .hbm, ⟨2, _⟩ => ⟨S512x1024, .bf16⟩
  | .hbm, ⟨3, _⟩ => ⟨S512x1024, .bf16⟩
  | .hbm, ⟨4, _⟩ => ⟨S1024x512, .bf16⟩
  | .hbm, ⟨5, _⟩ => ⟨S1024x512, .bf16⟩
  | .hbm, ⟨6, _⟩ => ⟨S1024x512, .bf16⟩
  | .hbm, ⟨7, _⟩ => ⟨S64x512, .f32⟩
  | .local _ .vmem, ⟨0, _⟩ => ⟨S64x512, .f32⟩
  | .local _ .vmem, ⟨1, _⟩ => ⟨S512x1024, .bf16⟩
  | .local _ .vmem, ⟨2, _⟩ => ⟨S1024x512, .bf16⟩
  | .local _ .vmem, ⟨3, _⟩ => ⟨S512x1024, .bf16⟩
  | .local _ .vmem, ⟨4, _⟩ => ⟨S1024x512, .bf16⟩
  | .local _ .vmem, ⟨5, _⟩ => ⟨S512x1024, .bf16⟩
  | .local _ .vmem, ⟨6, _⟩ => ⟨S1024x512, .bf16⟩
  | .local _ .vmem, ⟨7, _⟩ => ⟨S64x512, .f32⟩
  | .local _ .vmem, ⟨8, _⟩ => ⟨S96x16x512, .bf16⟩
  | _, _ => ⟨S64x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 152 → Bool
  | ⟨i, _⟩ => dmaSemScopedAt i

abbrev sig : RefSig :=
  (ofTc nBuf bufTy 1 152 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v10 : BitVec 32 := Scalar.xori v2 c3_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v13 : BitVec 32 := Scalar.xori v2 c4_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v16 : BitVec 32 := Scalar.xori v2 c8_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v19 : BitVec 32 := Scalar.xori v2 c12_i32
  let c1_i32_16 : BitVec 32 := 1#32
  let v20 : BitVec 32 := Scalar.muli v19 c1_i32_16
  let v21 : BitVec 32 := Scalar.addi c0_i32_17 v20
  v21.toNat
def k0_dev7 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_31 : BitVec 32 := 1#32
  let v44 : BitVec 32 := Scalar.xori v2 c1_i32_31
  let c1_i32_38 : BitVec 32 := 1#32
  let v45 : BitVec 32 := Scalar.muli v44 c1_i32_38
  let v46 : BitVec 32 := Scalar.addi c0_i32_39 v45
  v46.toNat
def k0_dev8 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_44 : BitVec 32 := 2#32
  let v55 : BitVec 32 := Scalar.xori v2 c2_i32_44
  let c1_i32_51 : BitVec 32 := 1#32
  let v56 : BitVec 32 := Scalar.muli v55 c1_i32_51
  let v57 : BitVec 32 := Scalar.addi c0_i32_52 v56
  v57.toNat
def k0_dev9 (d0 : Dev nD) : Nat :=
  let c0_i32_65 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_57 : BitVec 32 := 3#32
  let v66 : BitVec 32 := Scalar.xori v2 c3_i32_57
  let c1_i32_64 : BitVec 32 := 1#32
  let v67 : BitVec 32 := Scalar.muli v66 c1_i32_64
  let v68 : BitVec 32 := Scalar.addi c0_i32_65 v67
  v68.toNat
def k0_dev10 (d0 : Dev nD) : Nat :=
  let c0_i32_82 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_75 : BitVec 32 := 1#32
  let v87 : BitVec 32 := Scalar.xori v2 c1_i32_75
  let c1_i32_81 : BitVec 32 := 1#32
  let v88 : BitVec 32 := Scalar.muli v87 c1_i32_81
  let v89 : BitVec 32 := Scalar.addi c0_i32_82 v88
  v89.toNat
def k0_dev11 (d0 : Dev nD) : Nat :=
  let c0_i32_95 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_87 : BitVec 32 := 2#32
  let v98 : BitVec 32 := Scalar.xori v2 c2_i32_87
  let c1_i32_94 : BitVec 32 := 1#32
  let v99 : BitVec 32 := Scalar.muli v98 c1_i32_94
  let v100 : BitVec 32 := Scalar.addi c0_i32_95 v99
  v100.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_100 : BitVec 32 := 3#32
  let v109 : BitVec 32 := Scalar.xori v2 c3_i32_100
  let c1_i32_106 : BitVec 32 := 1#32
  let v110 : BitVec 32 := Scalar.muli v109 c1_i32_106
  let v111 : BitVec 32 := Scalar.addi c0_i32_107 v110
  v111.toNat
def k0_dev13 (d0 : Dev nD) : Nat :=
  let c0_i32_124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_117 : BitVec 32 := 1#32
  let v130 : BitVec 32 := Scalar.xori v2 c1_i32_117
  let c1_i32_123 : BitVec 32 := 1#32
  let v131 : BitVec 32 := Scalar.muli v130 c1_i32_123
  let v132 : BitVec 32 := Scalar.addi c0_i32_124 v131
  v132.toNat
def k0_dev14 (d0 : Dev nD) : Nat :=
  let c0_i32_136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_129 : BitVec 32 := 2#32
  let v141 : BitVec 32 := Scalar.xori v2 c2_i32_129
  let c1_i32_135 : BitVec 32 := 1#32
  let v142 : BitVec 32 := Scalar.muli v141 c1_i32_135
  let v143 : BitVec 32 := Scalar.addi c0_i32_136 v142
  v143.toNat
def k0_dev15 (d0 : Dev nD) : Nat :=
  let c0_i32_148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_141 : BitVec 32 := 3#32
  let v152 : BitVec 32 := Scalar.xori v2 c3_i32_141
  let c1_i32_147 : BitVec 32 := 1#32
  let v153 : BitVec 32 := Scalar.muli v152 c1_i32_147
  let v154 : BitVec 32 := Scalar.addi c0_i32_148 v153
  v154.toNat
def k0_dev16 (d0 : Dev nD) : Nat :=
  let c0_i32_165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_158 : BitVec 32 := 1#32
  let v173 : BitVec 32 := Scalar.xori v2 c1_i32_158
  let c1_i32_164 : BitVec 32 := 1#32
  let v174 : BitVec 32 := Scalar.muli v173 c1_i32_164
  let v175 : BitVec 32 := Scalar.addi c0_i32_165 v174
  v175.toNat
def k0_dev17 (d0 : Dev nD) : Nat :=
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_170 : BitVec 32 := 2#32
  let v184 : BitVec 32 := Scalar.xori v2 c2_i32_170
  let c1_i32_176 : BitVec 32 := 1#32
  let v185 : BitVec 32 := Scalar.muli v184 c1_i32_176
  let v186 : BitVec 32 := Scalar.addi c0_i32_177 v185
  v186.toNat
def k0_dev18 (d0 : Dev nD) : Nat :=
  let c0_i32_189 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_182 : BitVec 32 := 3#32
  let v195 : BitVec 32 := Scalar.xori v2 c3_i32_182
  let c1_i32_188 : BitVec 32 := 1#32
  let v196 : BitVec 32 := Scalar.muli v195 c1_i32_188
  let v197 : BitVec 32 := Scalar.addi c0_i32_189 v196
  v197.toNat
def k0_dev19 (d0 : Dev nD) : Nat :=
  let c0_i32_279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_272 : BitVec 32 := 4#32
  let v264 : BitVec 32 := Scalar.xori v2 c4_i32_272
  let c1_i32_278 : BitVec 32 := 1#32
  let v265 : BitVec 32 := Scalar.muli v264 c1_i32_278
  let v266 : BitVec 32 := Scalar.addi c0_i32_279 v265
  v266.toNat
def k0_dev20 (d0 : Dev nD) : Nat :=
  let c0_i32_291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_284 : BitVec 32 := 8#32
  let v275 : BitVec 32 := Scalar.xori v2 c8_i32_284
  let c1_i32_290 : BitVec 32 := 1#32
  let v276 : BitVec 32 := Scalar.muli v275 c1_i32_290
  let v277 : BitVec 32 := Scalar.addi c0_i32_291 v276
  v277.toNat
def k0_dev21 (d0 : Dev nD) : Nat :=
  let c0_i32_303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_296 : BitVec 32 := 12#32
  let v286 : BitVec 32 := Scalar.xori v2 c12_i32_296
  let c1_i32_302 : BitVec 32 := 1#32
  let v287 : BitVec 32 := Scalar.muli v286 c1_i32_302
  let v288 : BitVec 32 := Scalar.addi c0_i32_303 v287
  v288.toNat
def k0_dev22 (d0 : Dev nD) : Nat :=
  let c0_i32_391 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_385 : BitVec 32 := 4#32
  let v355 : BitVec 32 := Scalar.xori v2 c4_i32_385
  let c1_i32_390 : BitVec 32 := 1#32
  let v356 : BitVec 32 := Scalar.muli v355 c1_i32_390
  let v357 : BitVec 32 := Scalar.addi c0_i32_391 v356
  v357.toNat
def k0_dev23 (d0 : Dev nD) : Nat :=
  let c0_i32_403 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_396 : BitVec 32 := 8#32
  let v366 : BitVec 32 := Scalar.xori v2 c8_i32_396
  let c1_i32_402 : BitVec 32 := 1#32
  let v367 : BitVec 32 := Scalar.muli v366 c1_i32_402
  let v368 : BitVec 32 := Scalar.addi c0_i32_403 v367
  v368.toNat
def k0_dev24 (d0 : Dev nD) : Nat :=
  let c0_i32_415 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_408 : BitVec 32 := 12#32
  let v377 : BitVec 32 := Scalar.xori v2 c12_i32_408
  let c1_i32_414 : BitVec 32 := 1#32
  let v378 : BitVec 32 := Scalar.muli v377 c1_i32_414
  let v379 : BitVec 32 := Scalar.addi c0_i32_415 v378
  v379.toNat
def k0_dev25 (d0 : Dev nD) : Nat :=
  let c0_i32_503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_497 : BitVec 32 := 4#32
  let v446 : BitVec 32 := Scalar.xori v2 c4_i32_497
  let c1_i32_502 : BitVec 32 := 1#32
  let v447 : BitVec 32 := Scalar.muli v446 c1_i32_502
  let v448 : BitVec 32 := Scalar.addi c0_i32_503 v447
  v448.toNat
def k0_dev26 (d0 : Dev nD) : Nat :=
  let c0_i32_515 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_508 : BitVec 32 := 8#32
  let v457 : BitVec 32 := Scalar.xori v2 c8_i32_508
  let c1_i32_514 : BitVec 32 := 1#32
  let v458 : BitVec 32 := Scalar.muli v457 c1_i32_514
  let v459 : BitVec 32 := Scalar.addi c0_i32_515 v458
  v459.toNat
def k0_dev27 (d0 : Dev nD) : Nat :=
  let c0_i32_527 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_520 : BitVec 32 := 12#32
  let v468 : BitVec 32 := Scalar.xori v2 c12_i32_520
  let c1_i32_526 : BitVec 32 := 1#32
  let v469 : BitVec 32 := Scalar.muli v468 c1_i32_526
  let v470 : BitVec 32 := Scalar.addi c0_i32_527 v469
  v470.toNat
def k0_dev28 (d0 : Dev nD) : Nat :=
  let c0_i32_615 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_609 : BitVec 32 := 4#32
  let v537 : BitVec 32 := Scalar.xori v2 c4_i32_609
  let c1_i32_614 : BitVec 32 := 1#32
  let v538 : BitVec 32 := Scalar.muli v537 c1_i32_614
  let v539 : BitVec 32 := Scalar.addi c0_i32_615 v538
  v539.toNat
def k0_dev29 (d0 : Dev nD) : Nat :=
  let c0_i32_627 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_620 : BitVec 32 := 8#32
  let v548 : BitVec 32 := Scalar.xori v2 c8_i32_620
  let c1_i32_626 : BitVec 32 := 1#32
  let v549 : BitVec 32 := Scalar.muli v548 c1_i32_626
  let v550 : BitVec 32 := Scalar.addi c0_i32_627 v549
  v550.toNat
def k0_dev30 (d0 : Dev nD) : Nat :=
  let c0_i32_639 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_632 : BitVec 32 := 12#32
  let v559 : BitVec 32 := Scalar.xori v2 c12_i32_632
  let c1_i32_638 : BitVec 32 := 1#32
  let v560 : BitVec 32 := Scalar.muli v559 c1_i32_638
  let v561 : BitVec 32 := Scalar.addi c0_i32_639 v560
  v561.toNat
def k0_dev31 (d0 : Dev nD) : Nat :=
  let c0_i32_735 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_729 : BitVec 32 := 1#32
  let v638 : BitVec 32 := Scalar.xori v2 c1_i32_729
  let c1_i32_734 : BitVec 32 := 1#32
  let v639 : BitVec 32 := Scalar.muli v638 c1_i32_734
  let v640 : BitVec 32 := Scalar.addi c0_i32_735 v639
  v640.toNat
def k0_dev32 (d0 : Dev nD) : Nat :=
  let c0_i32_747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_740 : BitVec 32 := 2#32
  let v649 : BitVec 32 := Scalar.xori v2 c2_i32_740
  let c1_i32_746 : BitVec 32 := 1#32
  let v650 : BitVec 32 := Scalar.muli v649 c1_i32_746
  let v651 : BitVec 32 := Scalar.addi c0_i32_747 v650
  v651.toNat
def k0_dev33 (d0 : Dev nD) : Nat :=
  let c0_i32_759 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_752 : BitVec 32 := 3#32
  let v660 : BitVec 32 := Scalar.xori v2 c3_i32_752
  let c1_i32_758 : BitVec 32 := 1#32
  let v661 : BitVec 32 := Scalar.muli v660 c1_i32_758
  let v662 : BitVec 32 := Scalar.addi c0_i32_759 v661
  v662.toNat
def k0_dev34 (d0 : Dev nD) : Nat :=
  let c0_i32_850 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_844 : BitVec 32 := 1#32
  let v735 : BitVec 32 := Scalar.xori v2 c1_i32_844
  let c1_i32_849 : BitVec 32 := 1#32
  let v736 : BitVec 32 := Scalar.muli v735 c1_i32_849
  let v737 : BitVec 32 := Scalar.addi c0_i32_850 v736
  v737.toNat
def k0_dev35 (d0 : Dev nD) : Nat :=
  let c0_i32_862 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_855 : BitVec 32 := 2#32
  let v746 : BitVec 32 := Scalar.xori v2 c2_i32_855
  let c1_i32_861 : BitVec 32 := 1#32
  let v747 : BitVec 32 := Scalar.muli v746 c1_i32_861
  let v748 : BitVec 32 := Scalar.addi c0_i32_862 v747
  v748.toNat
def k0_dev36 (d0 : Dev nD) : Nat :=
  let c0_i32_874 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_867 : BitVec 32 := 3#32
  let v757 : BitVec 32 := Scalar.xori v2 c3_i32_867
  let c1_i32_873 : BitVec 32 := 1#32
  let v758 : BitVec 32 := Scalar.muli v757 c1_i32_873
  let v759 : BitVec 32 := Scalar.addi c0_i32_874 v758
  v759.toNat
def k0_dev37 (d0 : Dev nD) : Nat :=
  let c0_i32_965 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_959 : BitVec 32 := 1#32
  let v832 : BitVec 32 := Scalar.xori v2 c1_i32_959
  let c1_i32_964 : BitVec 32 := 1#32
  let v833 : BitVec 32 := Scalar.muli v832 c1_i32_964
  let v834 : BitVec 32 := Scalar.addi c0_i32_965 v833
  v834.toNat
def k0_dev38 (d0 : Dev nD) : Nat :=
  let c0_i32_977 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_970 : BitVec 32 := 2#32
  let v843 : BitVec 32 := Scalar.xori v2 c2_i32_970
  let c1_i32_976 : BitVec 32 := 1#32
  let v844 : BitVec 32 := Scalar.muli v843 c1_i32_976
  let v845 : BitVec 32 := Scalar.addi c0_i32_977 v844
  v845.toNat
def k0_dev39 (d0 : Dev nD) : Nat :=
  let c0_i32_989 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_982 : BitVec 32 := 3#32
  let v854 : BitVec 32 := Scalar.xori v2 c3_i32_982
  let c1_i32_988 : BitVec 32 := 1#32
  let v855 : BitVec 32 := Scalar.muli v854 c1_i32_988
  let v856 : BitVec 32 := Scalar.addi c0_i32_989 v855
  v856.toNat
def k0_dev40 (d0 : Dev nD) : Nat :=
  let c0_i32_1080 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1074 : BitVec 32 := 1#32
  let v929 : BitVec 32 := Scalar.xori v2 c1_i32_1074
  let c1_i32_1079 : BitVec 32 := 1#32
  let v930 : BitVec 32 := Scalar.muli v929 c1_i32_1079
  let v931 : BitVec 32 := Scalar.addi c0_i32_1080 v930
  v931.toNat
def k0_dev41 (d0 : Dev nD) : Nat :=
  let c0_i32_1092 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1085 : BitVec 32 := 2#32
  let v940 : BitVec 32 := Scalar.xori v2 c2_i32_1085
  let c1_i32_1091 : BitVec 32 := 1#32
  let v941 : BitVec 32 := Scalar.muli v940 c1_i32_1091
  let v942 : BitVec 32 := Scalar.addi c0_i32_1092 v941
  v942.toNat
def k0_dev42 (d0 : Dev nD) : Nat :=
  let c0_i32_1104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1097 : BitVec 32 := 3#32
  let v951 : BitVec 32 := Scalar.xori v2 c3_i32_1097
  let c1_i32_1103 : BitVec 32 := 1#32
  let v952 : BitVec 32 := Scalar.muli v951 c1_i32_1103
  let v953 : BitVec 32 := Scalar.addi c0_i32_1104 v952
  v953.toNat
def k0_dev43 (d0 : Dev nD) : Nat :=
  let c0_i32_1193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1187 : BitVec 32 := 4#32
  let v1020 : BitVec 32 := Scalar.xori v2 c4_i32_1187
  let c1_i32_1192 : BitVec 32 := 1#32
  let v1021 : BitVec 32 := Scalar.muli v1020 c1_i32_1192
  let v1022 : BitVec 32 := Scalar.addi c0_i32_1193 v1021
  v1022.toNat
def k0_dev44 (d0 : Dev nD) : Nat :=
  let c0_i32_1205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1198 : BitVec 32 := 8#32
  let v1031 : BitVec 32 := Scalar.xori v2 c8_i32_1198
  let c1_i32_1204 : BitVec 32 := 1#32
  let v1032 : BitVec 32 := Scalar.muli v1031 c1_i32_1204
  let v1033 : BitVec 32 := Scalar.addi c0_i32_1205 v1032
  v1033.toNat
def k0_dev45 (d0 : Dev nD) : Nat :=
  let c0_i32_1217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1210 : BitVec 32 := 12#32
  let v1042 : BitVec 32 := Scalar.xori v2 c12_i32_1210
  let c1_i32_1216 : BitVec 32 := 1#32
  let v1043 : BitVec 32 := Scalar.muli v1042 c1_i32_1216
  let v1044 : BitVec 32 := Scalar.addi c0_i32_1217 v1043
  v1044.toNat
def k0_dev46 (d0 : Dev nD) : Nat :=
  let c0_i32_1305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1299 : BitVec 32 := 4#32
  let v1111 : BitVec 32 := Scalar.xori v2 c4_i32_1299
  let c1_i32_1304 : BitVec 32 := 1#32
  let v1112 : BitVec 32 := Scalar.muli v1111 c1_i32_1304
  let v1113 : BitVec 32 := Scalar.addi c0_i32_1305 v1112
  v1113.toNat
def k0_dev47 (d0 : Dev nD) : Nat :=
  let c0_i32_1317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1310 : BitVec 32 := 8#32
  let v1122 : BitVec 32 := Scalar.xori v2 c8_i32_1310
  let c1_i32_1316 : BitVec 32 := 1#32
  let v1123 : BitVec 32 := Scalar.muli v1122 c1_i32_1316
  let v1124 : BitVec 32 := Scalar.addi c0_i32_1317 v1123
  v1124.toNat
def k0_dev48 (d0 : Dev nD) : Nat :=
  let c0_i32_1329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1322 : BitVec 32 := 12#32
  let v1133 : BitVec 32 := Scalar.xori v2 c12_i32_1322
  let c1_i32_1328 : BitVec 32 := 1#32
  let v1134 : BitVec 32 := Scalar.muli v1133 c1_i32_1328
  let v1135 : BitVec 32 := Scalar.addi c0_i32_1329 v1134
  v1135.toNat
def k0_dev49 (d0 : Dev nD) : Nat :=
  let c0_i32_1417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1411 : BitVec 32 := 4#32
  let v1202 : BitVec 32 := Scalar.xori v2 c4_i32_1411
  let c1_i32_1416 : BitVec 32 := 1#32
  let v1203 : BitVec 32 := Scalar.muli v1202 c1_i32_1416
  let v1204 : BitVec 32 := Scalar.addi c0_i32_1417 v1203
  v1204.toNat
def k0_dev50 (d0 : Dev nD) : Nat :=
  let c0_i32_1429 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1422 : BitVec 32 := 8#32
  let v1213 : BitVec 32 := Scalar.xori v2 c8_i32_1422
  let c1_i32_1428 : BitVec 32 := 1#32
  let v1214 : BitVec 32 := Scalar.muli v1213 c1_i32_1428
  let v1215 : BitVec 32 := Scalar.addi c0_i32_1429 v1214
  v1215.toNat
def k0_dev51 (d0 : Dev nD) : Nat :=
  let c0_i32_1441 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1434 : BitVec 32 := 12#32
  let v1224 : BitVec 32 := Scalar.xori v2 c12_i32_1434
  let c1_i32_1440 : BitVec 32 := 1#32
  let v1225 : BitVec 32 := Scalar.muli v1224 c1_i32_1440
  let v1226 : BitVec 32 := Scalar.addi c0_i32_1441 v1225
  v1226.toNat
def k0_dev52 (d0 : Dev nD) : Nat :=
  let c0_i32_1529 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1523 : BitVec 32 := 4#32
  let v1293 : BitVec 32 := Scalar.xori v2 c4_i32_1523
  let c1_i32_1528 : BitVec 32 := 1#32
  let v1294 : BitVec 32 := Scalar.muli v1293 c1_i32_1528
  let v1295 : BitVec 32 := Scalar.addi c0_i32_1529 v1294
  v1295.toNat
def k0_dev53 (d0 : Dev nD) : Nat :=
  let c0_i32_1541 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1534 : BitVec 32 := 8#32
  let v1304 : BitVec 32 := Scalar.xori v2 c8_i32_1534
  let c1_i32_1540 : BitVec 32 := 1#32
  let v1305 : BitVec 32 := Scalar.muli v1304 c1_i32_1540
  let v1306 : BitVec 32 := Scalar.addi c0_i32_1541 v1305
  v1306.toNat
def k0_dev54 (d0 : Dev nD) : Nat :=
  let c0_i32_1553 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1546 : BitVec 32 := 12#32
  let v1315 : BitVec 32 := Scalar.xori v2 c12_i32_1546
  let c1_i32_1552 : BitVec 32 := 1#32
  let v1316 : BitVec 32 := Scalar.muli v1315 c1_i32_1552
  let v1317 : BitVec 32 := Scalar.addi c0_i32_1553 v1316
  v1317.toNat
def k0_dev55 (d0 : Dev nD) : Nat :=
  let c0_i32_1648 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1642 : BitVec 32 := 1#32
  let v1394 : BitVec 32 := Scalar.xori v2 c1_i32_1642
  let c1_i32_1647 : BitVec 32 := 1#32
  let v1395 : BitVec 32 := Scalar.muli v1394 c1_i32_1647
  let v1396 : BitVec 32 := Scalar.addi c0_i32_1648 v1395
  v1396.toNat
def k0_dev56 (d0 : Dev nD) : Nat :=
  let c0_i32_1660 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1653 : BitVec 32 := 2#32
  let v1405 : BitVec 32 := Scalar.xori v2 c2_i32_1653
  let c1_i32_1659 : BitVec 32 := 1#32
  let v1406 : BitVec 32 := Scalar.muli v1405 c1_i32_1659
  let v1407 : BitVec 32 := Scalar.addi c0_i32_1660 v1406
  v1407.toNat
def k0_dev57 (d0 : Dev nD) : Nat :=
  let c0_i32_1672 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1665 : BitVec 32 := 3#32
  let v1416 : BitVec 32 := Scalar.xori v2 c3_i32_1665
  let c1_i32_1671 : BitVec 32 := 1#32
  let v1417 : BitVec 32 := Scalar.muli v1416 c1_i32_1671
  let v1418 : BitVec 32 := Scalar.addi c0_i32_1672 v1417
  v1418.toNat
def k0_dev58 (d0 : Dev nD) : Nat :=
  let c0_i32_1763 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1757 : BitVec 32 := 1#32
  let v1491 : BitVec 32 := Scalar.xori v2 c1_i32_1757
  let c1_i32_1762 : BitVec 32 := 1#32
  let v1492 : BitVec 32 := Scalar.muli v1491 c1_i32_1762
  let v1493 : BitVec 32 := Scalar.addi c0_i32_1763 v1492
  v1493.toNat
def k0_dev59 (d0 : Dev nD) : Nat :=
  let c0_i32_1775 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1768 : BitVec 32 := 2#32
  let v1502 : BitVec 32 := Scalar.xori v2 c2_i32_1768
  let c1_i32_1774 : BitVec 32 := 1#32
  let v1503 : BitVec 32 := Scalar.muli v1502 c1_i32_1774
  let v1504 : BitVec 32 := Scalar.addi c0_i32_1775 v1503
  v1504.toNat
def k0_dev60 (d0 : Dev nD) : Nat :=
  let c0_i32_1787 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1780 : BitVec 32 := 3#32
  let v1513 : BitVec 32 := Scalar.xori v2 c3_i32_1780
  let c1_i32_1786 : BitVec 32 := 1#32
  let v1514 : BitVec 32 := Scalar.muli v1513 c1_i32_1786
  let v1515 : BitVec 32 := Scalar.addi c0_i32_1787 v1514
  v1515.toNat
def k0_dev61 (d0 : Dev nD) : Nat :=
  let c0_i32_1878 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1872 : BitVec 32 := 1#32
  let v1588 : BitVec 32 := Scalar.xori v2 c1_i32_1872
  let c1_i32_1877 : BitVec 32 := 1#32
  let v1589 : BitVec 32 := Scalar.muli v1588 c1_i32_1877
  let v1590 : BitVec 32 := Scalar.addi c0_i32_1878 v1589
  v1590.toNat
def k0_dev62 (d0 : Dev nD) : Nat :=
  let c0_i32_1890 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1883 : BitVec 32 := 2#32
  let v1599 : BitVec 32 := Scalar.xori v2 c2_i32_1883
  let c1_i32_1889 : BitVec 32 := 1#32
  let v1600 : BitVec 32 := Scalar.muli v1599 c1_i32_1889
  let v1601 : BitVec 32 := Scalar.addi c0_i32_1890 v1600
  v1601.toNat
def k0_dev63 (d0 : Dev nD) : Nat :=
  let c0_i32_1902 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1895 : BitVec 32 := 3#32
  let v1610 : BitVec 32 := Scalar.xori v2 c3_i32_1895
  let c1_i32_1901 : BitVec 32 := 1#32
  let v1611 : BitVec 32 := Scalar.muli v1610 c1_i32_1901
  let v1612 : BitVec 32 := Scalar.addi c0_i32_1902 v1611
  v1612.toNat
def k0_dev64 (d0 : Dev nD) : Nat :=
  let c0_i32_1993 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1987 : BitVec 32 := 1#32
  let v1685 : BitVec 32 := Scalar.xori v2 c1_i32_1987
  let c1_i32_1992 : BitVec 32 := 1#32
  let v1686 : BitVec 32 := Scalar.muli v1685 c1_i32_1992
  let v1687 : BitVec 32 := Scalar.addi c0_i32_1993 v1686
  v1687.toNat
def k0_dev65 (d0 : Dev nD) : Nat :=
  let c0_i32_2005 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1998 : BitVec 32 := 2#32
  let v1696 : BitVec 32 := Scalar.xori v2 c2_i32_1998
  let c1_i32_2004 : BitVec 32 := 1#32
  let v1697 : BitVec 32 := Scalar.muli v1696 c1_i32_2004
  let v1698 : BitVec 32 := Scalar.addi c0_i32_2005 v1697
  v1698.toNat
def k0_dev66 (d0 : Dev nD) : Nat :=
  let c0_i32_2017 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2010 : BitVec 32 := 3#32
  let v1707 : BitVec 32 := Scalar.xori v2 c3_i32_2010
  let c1_i32_2016 : BitVec 32 := 1#32
  let v1708 : BitVec 32 := Scalar.muli v1707 c1_i32_2016
  let v1709 : BitVec 32 := Scalar.addi c0_i32_2017 v1708
  v1709.toNat
def k0_dev67 (d0 : Dev nD) : Nat :=
  let c0_i32_2105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2099 : BitVec 32 := 4#32
  let v1776 : BitVec 32 := Scalar.xori v2 c4_i32_2099
  let c1_i32_2104 : BitVec 32 := 1#32
  let v1777 : BitVec 32 := Scalar.muli v1776 c1_i32_2104
  let v1778 : BitVec 32 := Scalar.addi c0_i32_2105 v1777
  v1778.toNat
def k0_dev68 (d0 : Dev nD) : Nat :=
  let c0_i32_2117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2110 : BitVec 32 := 8#32
  let v1787 : BitVec 32 := Scalar.xori v2 c8_i32_2110
  let c1_i32_2116 : BitVec 32 := 1#32
  let v1788 : BitVec 32 := Scalar.muli v1787 c1_i32_2116
  let v1789 : BitVec 32 := Scalar.addi c0_i32_2117 v1788
  v1789.toNat
def k0_dev69 (d0 : Dev nD) : Nat :=
  let c0_i32_2129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2122 : BitVec 32 := 12#32
  let v1798 : BitVec 32 := Scalar.xori v2 c12_i32_2122
  let c1_i32_2128 : BitVec 32 := 1#32
  let v1799 : BitVec 32 := Scalar.muli v1798 c1_i32_2128
  let v1800 : BitVec 32 := Scalar.addi c0_i32_2129 v1799
  v1800.toNat
def k0_dev70 (d0 : Dev nD) : Nat :=
  let c0_i32_2217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2211 : BitVec 32 := 4#32
  let v1867 : BitVec 32 := Scalar.xori v2 c4_i32_2211
  let c1_i32_2216 : BitVec 32 := 1#32
  let v1868 : BitVec 32 := Scalar.muli v1867 c1_i32_2216
  let v1869 : BitVec 32 := Scalar.addi c0_i32_2217 v1868
  v1869.toNat
def k0_dev71 (d0 : Dev nD) : Nat :=
  let c0_i32_2229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2222 : BitVec 32 := 8#32
  let v1878 : BitVec 32 := Scalar.xori v2 c8_i32_2222
  let c1_i32_2228 : BitVec 32 := 1#32
  let v1879 : BitVec 32 := Scalar.muli v1878 c1_i32_2228
  let v1880 : BitVec 32 := Scalar.addi c0_i32_2229 v1879
  v1880.toNat
def k0_dev72 (d0 : Dev nD) : Nat :=
  let c0_i32_2241 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2234 : BitVec 32 := 12#32
  let v1889 : BitVec 32 := Scalar.xori v2 c12_i32_2234
  let c1_i32_2240 : BitVec 32 := 1#32
  let v1890 : BitVec 32 := Scalar.muli v1889 c1_i32_2240
  let v1891 : BitVec 32 := Scalar.addi c0_i32_2241 v1890
  v1891.toNat
def k0_dev73 (d0 : Dev nD) : Nat :=
  let c0_i32_2329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2323 : BitVec 32 := 4#32
  let v1958 : BitVec 32 := Scalar.xori v2 c4_i32_2323
  let c1_i32_2328 : BitVec 32 := 1#32
  let v1959 : BitVec 32 := Scalar.muli v1958 c1_i32_2328
  let v1960 : BitVec 32 := Scalar.addi c0_i32_2329 v1959
  v1960.toNat
def k0_dev74 (d0 : Dev nD) : Nat :=
  let c0_i32_2341 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2334 : BitVec 32 := 8#32
  let v1969 : BitVec 32 := Scalar.xori v2 c8_i32_2334
  let c1_i32_2340 : BitVec 32 := 1#32
  let v1970 : BitVec 32 := Scalar.muli v1969 c1_i32_2340
  let v1971 : BitVec 32 := Scalar.addi c0_i32_2341 v1970
  v1971.toNat
def k0_dev75 (d0 : Dev nD) : Nat :=
  let c0_i32_2353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2346 : BitVec 32 := 12#32
  let v1980 : BitVec 32 := Scalar.xori v2 c12_i32_2346
  let c1_i32_2352 : BitVec 32 := 1#32
  let v1981 : BitVec 32 := Scalar.muli v1980 c1_i32_2352
  let v1982 : BitVec 32 := Scalar.addi c0_i32_2353 v1981
  v1982.toNat
def k0_dev76 (d0 : Dev nD) : Nat :=
  let c0_i32_2441 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2435 : BitVec 32 := 4#32
  let v2049 : BitVec 32 := Scalar.xori v2 c4_i32_2435
  let c1_i32_2440 : BitVec 32 := 1#32
  let v2050 : BitVec 32 := Scalar.muli v2049 c1_i32_2440
  let v2051 : BitVec 32 := Scalar.addi c0_i32_2441 v2050
  v2051.toNat
def k0_dev77 (d0 : Dev nD) : Nat :=
  let c0_i32_2453 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2446 : BitVec 32 := 8#32
  let v2060 : BitVec 32 := Scalar.xori v2 c8_i32_2446
  let c1_i32_2452 : BitVec 32 := 1#32
  let v2061 : BitVec 32 := Scalar.muli v2060 c1_i32_2452
  let v2062 : BitVec 32 := Scalar.addi c0_i32_2453 v2061
  v2062.toNat
def k0_dev78 (d0 : Dev nD) : Nat :=
  let c0_i32_2465 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2458 : BitVec 32 := 12#32
  let v2071 : BitVec 32 := Scalar.xori v2 c12_i32_2458
  let c1_i32_2464 : BitVec 32 := 1#32
  let v2072 : BitVec 32 := Scalar.muli v2071 c1_i32_2464
  let v2073 : BitVec 32 := Scalar.addi c0_i32_2465 v2072
  v2073.toNat
abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S64x512 : Shape := ⟨2, ![64, 512]⟩
abbrev S512x16384 : Shape := ⟨2, ![512, 16384]⟩
abbrev S16384x512 : Shape := ⟨2, ![16384, 512]⟩
abbrev S64x16384 : Shape := ⟨2, ![64, 16384]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S64x512, .f32⟩
  | .hbm, ⟨1, _⟩ => ⟨S512x16384, .bf16⟩
  | .hbm, ⟨2, _⟩ => ⟨S512x16384, .bf16⟩
  | .hbm, ⟨3, _⟩ => ⟨S512x16384, .bf16⟩
  | .hbm, ⟨4, _⟩ => ⟨S16384x512, .bf16⟩
  | .hbm, ⟨5, _⟩ => ⟨S16384x512, .bf16⟩
  | .hbm, ⟨6, _⟩ => ⟨S16384x512, .bf16⟩
  | .hbm, ⟨7, _⟩ => ⟨S64x512, .bf16⟩
  | .hbm, ⟨8, _⟩ => ⟨S64x16384, .f32⟩
  | .hbm, ⟨9, _⟩ => ⟨S64x16384, .bf16⟩
  | .hbm, ⟨10, _⟩ => ⟨S_, .bf16⟩
  | .hbm, ⟨11, _⟩ => ⟨S64x16384, .bf16⟩
  | .hbm, ⟨12, _⟩ => ⟨S64x16384, .bf16⟩
  | .hbm, ⟨13, _⟩ => ⟨S64x512, .f32⟩
  | .hbm, ⟨14, _⟩ => ⟨S64x512, .bf16⟩
  | .hbm, ⟨15, _⟩ => ⟨S64x16384, .f32⟩
  | .hbm, ⟨16, _⟩ => ⟨S64x16384, .bf16⟩
  | .hbm, ⟨17, _⟩ => ⟨S_, .bf16⟩
  | .hbm, ⟨18, _⟩ => ⟨S64x16384, .bf16⟩
  | .hbm, ⟨19, _⟩ => ⟨S64x16384, .bf16⟩
  | .hbm, ⟨20, _⟩ => ⟨S64x512, .f32⟩
  | .hbm, ⟨21, _⟩ => ⟨S64x512, .bf16⟩
  | .hbm, ⟨22, _⟩ => ⟨S64x16384, .f32⟩
  | .hbm, ⟨23, _⟩ => ⟨S64x16384, .bf16⟩
  | .hbm, ⟨24, _⟩ => ⟨S_, .bf16⟩
  | .hbm, ⟨25, _⟩ => ⟨S64x16384, .bf16⟩
  | .hbm, ⟨26, _⟩ => ⟨S64x16384, .bf16⟩
  | .hbm, ⟨27, _⟩ => ⟨S64x512, .f32⟩
  | .hbm, ⟨28, _⟩ => ⟨S64x512, .bf16⟩
  | .hbm, ⟨29, _⟩ => ⟨S64x512, .f32⟩
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Proof.KernelIdeal.Cells.lean ====
/-
  The wires of the exchange: which device is met at which step, which slot of the scratch buffer and which
  two semaphore cells belong to each of the 72 copies a device starts, and what one slot holds.

  A device runs 24 exchanges (3 layers, 2 rounds, 4 row quarters); exchange `q` keeps its source in slot `4 q`
  and takes what its three peers send into slots `4 q + 1`, `4 q + 2`, `4 q + 3`. Copy number `i = 3 q + j` goes
  to the peer whose number differs from the device's own by the bits of the `j`-th offset of the round.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.RegionTalk
public import Idealize.ShloMosaic.Lib.Pipeline.TableIdle
public import Idealize.ShloMosaic.Lib.Ring.Trips
public import Idealize.ShloMosaic.Lib.Tactic

@[expose] public section

noncomputable section

namespace Cert.KernelIdeal

open Idealize.ShloMosaic Idealize.ShloMosaic.TcCoe
open Idealize.SL Idealize.SL.RA Idealize.SL.BI Idealize.SL.BI.Laws Idealize.SL.Sem Idealize.SL.ProofMode
open scoped Idealize.SL.BI
open Idealize.SL.BI.BIBase
open Idealize.ShloMosaic.Rounds
open Facts₀ Facts
open Idealize.ShloMosaic.Pipeline (Dat Cfg Window BodyObligation cellOf)

variable {F : FTy → Type} [FloatOps F]

/-! ## Peers -/

/-- The six offsets: three of the first round, three of the second. -/
def offs : Fin 6 → ℕ := ![1, 2, 3, 4, 8, 12]

/-- The device at offset `o` from `c`. -/
def peer (o : Fin 6) (c : Dev nD) : Dev nD :=
  ⟨c.val ^^^ offs o, Nat.xor_lt_two_pow (n := 4) c.isLt (by revert o; decide)⟩

theorem peer_peer (o : Fin 6) (c : Dev nD) : peer o (peer o c) = c := by revert o c; decide +kernel
theorem peer_ne (o : Fin 6) (c : Dev nD) : peer o c ≠ c := by revert o c; decide +kernel

/-- The offset that copy `i` uses: its round is `i / 12 mod 2`. -/
def oi (i : Fin 72) : Fin 6 := ⟨3 * (i.val / 12 % 2) + i.val % 3, by omega⟩

/-- The device copy `i` goes to; the copy `i` that arrives comes from the same one. -/
def px (c : Dev nD) (i : Fin 72) : Dev nD := peer (oi i) c

theorem px_px (c : Dev nD) (i : Fin 72) : px (px c i) i = c := peer_peer _ _

/-! ## Slots -/

theorem slot_inb (n : ℕ) (h : n < 96) : ∀ a, (![n, 0, 0] : Fin 3 → ℕ) a + S1x16x512.size a ≤ S96x16x512.size a := by
  intro a; fin_cases a
  · show n + 1 ≤ 96; omega
  · exact Nat.le_refl 16
  · exact Nat.le_refl 512

/-- Slot `n` of the scratch buffer as a view: sixteen rows of 512. -/
abbrev slotV (n : ℕ) (h : n < 96) : View sig .tc .vmem S1x16x512 .bf16 :=
  (Memref.whole cc0_scratch0).access (Rect.unit (s := S96x16x512) ![n, 0, 0] S1x16x512.size (slot_inb n h))

/-- The same slot as the copies name it: the leading axis of length one dropped. -/
abbrev slotM (n : ℕ) (h : n < 96) : Memref sig .tc .vmem S16x512 .bf16 :=
  ((Memref.whole cc0_scratch0).slice (Rect.unit (s := S96x16x512) ![n, 0, 0] S1x16x512.size (slot_inb n h)) (fun _ => rfl)).squeeze S16x512 squeezes_S1x16x512_S16x512

theorem slotM_set (n : ℕ) (h : n < 96) : (slotM n h).view.set = (slotV n h).set := View.set_reshape ..

/-- The units one copy of a slot credits: the same for every slot. -/
abbrev N : ℕ := (slotM 0 (by decide)).view.dmaCredit
theorem N_pos : 0 < N := View.dmaCredit_pos _ (by decide)

/-! ## Semaphore cells -/

def sendSem (i : Fin 72) : DmaSem sig := ⟨8 + i.val, by have := i.isLt; show 8 + i.val < 152; omega⟩
def recvSem (i : Fin 72) : DmaSem sig := ⟨80 + i.val, by have := i.isLt; show 80 + i.val < 152; omega⟩

theorem sem_inb (q j : ℕ) (hq : q < 24) (hj : j < 3) : ∀ a, (![q, j] : Fin 2 → ℕ) a + S1x1.size a ≤ S24x3.size a := by
  intro a; fin_cases a
  · show q + 1 ≤ 24; omega
  · show j + 1 ≤ 3; omega

theorem sendSem_at : ∀ (q : Fin 24) (j : Fin 3),
    ((cc0_scratch1.slice (Rect.unit (s := S24x3) ![q.val, j.val] S1x1.size (sem_inb q j q.isLt j.isLt))).squeeze S_ squeezes_S1x1_S_).sem.val
      = 8 + (3 * q.val + j.val) := by decide +kernel
theorem recvSem_at : ∀ (q : Fin 24) (j : Fin 3),
    ((cc0_scratch2.slice (Rect.unit (s := S24x3) ![q.val, j.val] S1x1.size (sem_inb q j q.isLt j.isLt))).squeeze S_ squeezes_S1x1_S_).sem.val
      = 80 + (3 * q.val + j.val) := by decide +kernel

/-- The semaphore the program picks at row `q`, column `j` of the send array is copy `3 q + j`'s. -/
theorem sendSem_eq (i : Fin 72) (q j : ℕ) (hq : q = i.val / 3) (hj : j = i.val % 3)
    (h : ∀ a, (![q, j] : Fin 2 → ℕ) a + S1x1.size a ≤ S24x3.size a) :
    ((cc0_scratch1.slice (Rect.unit (s := S24x3) ![q, j] S1x1.size h)).squeeze S_ squeezes_S1x1_S_).sem = sendSem i := by
  have hi := i.isLt
  have h2 := sendSem_at ⟨q, by omega⟩ ⟨j, by omega⟩
  refine Fin.ext (h2.trans ?_)
  show 8 + (3 * q + j) = 8 + i.val; omega
theorem recvSem_eq (i : Fin 72) (q j : ℕ) (hq : q = i.val / 3) (hj : j = i.val % 3)
    (h : ∀ a, (![q, j] : Fin 2 → ℕ) a + S1x1.size a ≤ S24x3.size a) :
    ((cc0_scratch2.slice (Rect.unit (s := S24x3) ![q, j] S1x1.size h)).squeeze S_ squeezes_S1x1_S_).sem = recvSem i := by
  have hi := i.isLt
  have h2 := recvSem_at ⟨q, by omega⟩ ⟨j, by omega⟩
  refine Fin.ext (h2.trans ?_)
  show 80 + (3 * q + j) = 80 + i.val; omega

/-- The barrier semaphore. -/
abbrev barS : Sem sig := (SemArray.scalar (sig.barrier 0 rfl) : Sems sig S_).sem

abbrev barCell (c : Dev nD) : GSem nD τ sig := ((c : Thread nD τ), .reg barS)
abbrev sendCell (c : Dev nD) (i : Fin 72) : GSem nD τ sig := ((c : Thread nD τ), .dma (sendSem i))
abbrev recvCell (c : Dev nD) (i : Fin 72) : GSem nD τ sig := ((c : Thread nD τ), .dma (recvSem i))

/-- What a semaphore is used for. -/
inductive Role where
  | bar
  | send (i : Fin 72)
  | recv (i : Fin 72)
  | other
deriving DecidableEq

def role : SemLoc sig → Role
  | .reg s => if s = barS then .bar else .other
  | .dma s => if h : 8 ≤ s.val ∧ s.val < 80 then .send ⟨s.val - 8, by omega⟩
      else if h' : 80 ≤ s.val ∧ s.val < 152 then .recv ⟨s.val - 80, by omega⟩ else .other

theorem role_bar : role (.reg barS) = .bar := by unfold role; exact if_pos rfl
theorem role_send (i : Fin 72) : role (.dma (sendSem i)) = .send i := by
  have hi := i.isLt
  unfold role; dsimp only [sendSem]
  rw [dif_pos ⟨by omega, by omega⟩]; congr 1; exact Fin.ext (by dsimp only; omega)
theorem role_recv (i : Fin 72) : role (.dma (recvSem i)) = .recv i := by
  have hi := i.isLt
  unfold role; dsimp only [recvSem]
  rw [dif_neg (by omega), dif_pos ⟨by omega, by omega⟩]; congr 1; exact Fin.ext (by dsimp only; omega)

theorem sendSem_inj {i j : Fin 72} (h : (SemLoc.dma (sendSem i) : SemLoc sig) = .dma (sendSem j)) : i = j := by
  have := congrArg role h; rw [role_send, role_send] at this; exact Role.send.inj this
theorem recvSem_inj {i j : Fin 72} (h : (SemLoc.dma (recvSem i) : SemLoc sig) = .dma (recvSem j)) : i = j := by
  have := congrArg role h; rw [role_recv, role_recv] at this; exact Role.recv.inj this

end Cert.KernelIdeal

end
-- ==== Proof.KernelIdeal.Sched.lean ====
/-
  What every device computes, and the schedule of the exchange.

  `In` bundles the seven arrays of all sixteen devices. From them every value the kernel makes is named: the partial
  product of each layer on each device, the sums after the two rounds, what each exchange sends, what lands in every
  slot. The schedule says which copy or signal pays which semaphore cell and what memory comes with it.
-/
module

public import proofs.«01_k».proof.Proof.KernelIdeal.Cells

@[expose] public section

noncomputable section

namespace Cert.KernelIdeal

open Idealize.ShloMosaic Idealize.ShloMosaic.TcCoe
open Idealize.SL Idealize.SL.RA Idealize.SL.BI Idealize.SL.BI.Laws Idealize.SL.Sem Idealize.SL.ProofMode
open scoped Idealize.SL.BI
open Idealize.SL.BI.BIBase
open Idealize.ShloMosaic.Rounds
open Gen
open Idealize.ShloMosaic.Ring (shares3 pointsTo_thirds)
open Idealize.ShloMosaic.Pipeline (Dat Cfg Window BodyObligation cellOf)

variable {F : FTy → Type} [FloatOps F]

/-! ## Values -/

/-- The arrays of all devices: `x`, and the two weights of each layer. -/
structure In (F : FTy → Type) where
  x : Dev nD → Vec F S64x512 .f32
  win : Fin 3 → Dev nD → Vec F S512x1024 .bf16
  wout : Fin 3 → Dev nD → Vec F S1024x512 .bf16

theorem rows_inb (hf : Fin 4) : ∀ a, (![16 * hf.val, 0] : Fin 2 → ℕ) a + S16x512.size a ≤ S64x512.size a := by
  intro a; fin_cases a
  · have := hf.isLt; show 16 * hf.val + 16 ≤ 64; omega
  · exact Nat.le_refl 512

/-- Row quarter `hf` of an array of 64 rows. -/
def rowsOf (x : Vec F S64x512 .f32) (hf : Fin 4) : Vec F S16x512 .f32 :=
  fun y => x ((Rect.unit (s := S64x512) ![16 * hf.val, 0] S16x512.size (rows_inb hf)).toLoadRect.idx y)
/-- A weight as the kernel reads it: the whole array. -/
def winAll (w : Vec F S512x1024 .bf16) : Vec F S512x1024 .bf16 :=
  fun y => w ((Rect.unit (s := S512x1024) ![0, 0] S512x1024.size inb_S512x1024_S512x1024_0_0).toLoadRect.idx y)
def woutAll (w : Vec F S1024x512 .bf16) : Vec F S1024x512 .bf16 :=
  fun y => w ((Rect.unit (s := S1024x512) ![0, 0] S1024x512.size inb_S1024x512_S1024x512_0_0).toLoadRect.idx y)

/-- One layer on one device: a matrix product, `max 0`, a second matrix product. -/
def mlp (v : FVec F S16x512 .f32) (w1 : Vec F S512x1024 .bf16) (w2 : Vec F S1024x512 .bf16) : FVec F S16x512 .f32 :=
  k0_pay7 v (winAll w1) (woutAll w2)

/-- A value as it is sent. -/
def pack (v : FVec F S16x512 .f32) : FVec F S1x16x512 .bf16 :=
  shapeCast S1x16x512 (truncf .bf16 v bitsLt_bf16_f32) shapeCasts_S16x512_S1x16x512

/-- A landed value added to the running sum. -/
def addIn (v : FVec F S16x512 .f32) (w : FVec F S1x16x512 .bf16) : FVec F S16x512 .f32 :=
  addf v (extf .f32 (shapeCast S16x512 w shapeCasts_S1x16x512_S16x512) bitsLt_bf16_f32)

/-- One round: the device's own value plus what its three peers send. -/
def gather (v : Dev nD → Fin 4 → FVec F S16x512 .f32) (o₁ o₂ o₃ : Fin 6) (c : Dev nD) (hf : Fin 4) : FVec F S16x512 .f32 :=
  addIn (addIn (addIn (v c hf) (pack (v (peer o₁ c) hf))) (pack (v (peer o₂ c) hf))) (pack (v (peer o₃ c) hf))

section Values
variable (I : In F)

def val0 (c : Dev nD) (hf : Fin 4) : FVec F S16x512 .f32 := mlp (k0_pay1 (rowsOf (I.x c) hf)) (I.win 0 c) (I.wout 0 c)
def val1 : Dev nD → Fin 4 → FVec F S16x512 .f32 := gather (val0 I) 0 1 2
def val2 (c : Dev nD) (hf : Fin 4) : FVec F S16x512 .f32 := mlp (gather (val1 I) 3 4 5 c hf) (I.win 1 c) (I.wout 1 c)
def val3 : Dev nD → Fin 4 → FVec F S16x512 .f32 := gather (val2 I) 0 1 2
def val4 (c : Dev nD) (hf : Fin 4) : FVec F S16x512 .f32 := mlp (gather (val3 I) 3 4 5 c hf) (I.win 2 c) (I.wout 2 c)
def val5 : Dev nD → Fin 4 → FVec F S16x512 .f32 := gather (val4 I) 0 1 2
/-- Row quarter `hf` of the result on device `c`. -/
def outv : Dev nD → Fin 4 → FVec F S16x512 .f32 := gather (val5 I) 3 4 5

/-- The value a phase (layer and round) exchanges. -/
def val : Fin 6 → Dev nD → Fin 4 → FVec F S16x512 .f32 := ![val0 I, val1 I, val2 I, val3 I, val4 I, val5 I]

/-- What exchange `q` of device `c` sends. -/
def srcV (c : Dev nD) (q : Fin 24) : FVec F S1x16x512 .bf16 :=
  pack (val I ⟨q.val / 4, by have := q.isLt; omega⟩ c ⟨q.val % 4, Nat.mod_lt _ (by decide)⟩)

/-- The exchange copy `i` belongs to. -/
def qi (i : Fin 72) : Fin 24 := ⟨i.val / 3, by have := i.isLt; omega⟩

/-- What copy `i` brings to device `c`. -/
def landV (c : Dev nD) (i : Fin 72) : FVec F S1x16x512 .bf16 := srcV I (px c i) (qi i)

end Values

/-! ## The resource algebra -/

abbrev UB : Type := URounds (GSem nD τ sig) (Fin 6)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Slots held -/

theorem src_lt (q : Fin 24) : 4 * q.val < 96 := by have := q.isLt; omega
/-- The slot copy `i` lands in. -/
def ln (i : Fin 72) : ℕ := 4 * (i.val / 3) + 1 + i.val % 3
theorem ln_lt (i : Fin 72) : ln i < 96 := by have := i.isLt; unfold ln; omega

/-- Slot `n` of device `c` at contents `X`, at share `s`. -/
def slotPts (c : Dev nD) (n : ℕ) (h : n < 96) (s : PosShare TreeShare) (X : FVec F S1x16x512 .bf16) : sProp 𝕄 :=
  (slotV n h).loc (c : Thread nD τ) ↦[(slotV n h).set]{s} ((slotV n h).rep (Val := Elt F) X)
/-- The same slot at contents not chosen. -/
def slotAny (c : Dev nD) (n : ℕ) (h : n < 96) : sProp 𝕄 :=
  iprop(∃ f : Buf (Elt F) ((slotV n h).loc (c : Thread nD τ)), (slotV n h).loc (c : Thread nD τ) ↦[(slotV n h).set]{fullShare} f)

theorem slotPts_any (c : Dev nD) (n : ℕ) (h : n < 96) (X : FVec F S1x16x512 .bf16) :
    (slotPts c n h fullShare X : sProp 𝕄) ⊢ slotAny c n h := by
  unfold slotPts slotAny; iintro H; iexists _; iexact H

instance slotPts_storable (c : Dev nD) (n : ℕ) (h : n < 96) (s) (X : FVec F S1x16x512 .bf16) :
    BI.Storable (upEmb : UEmb _ 𝕄) (slotPts c n h s X) := by unfold slotPts; infer_instance
instance slotAny_storable (c : Dev nD) (n : ℕ) (h : n < 96) :
    BI.Storable (upEmb : UEmb _ 𝕄) (slotAny (F := F) c n h) := by
  unfold slotAny
  have hS (f : Buf (Elt F) ((slotV n h).loc (c : Thread nD τ))) :
      BI.Storable (upEmb : UEmb _ 𝕄) ((slotV n h).loc (c : Thread nD τ) ↦[(slotV n h).set]{fullShare} f) := inferInstance
  exact BI.Storable.exists _ _

/-- What a copy leaves in the slot it lands in. -/
theorem landing_eq (c c' : Dev nD) (n n' : ℕ) (h : n < 96) (h' : n' < 96) (X : FVec F S1x16x512 .bf16)
    (fd : Buf (Elt F) ((slotM n' h').view.loc (c' : Thread nD τ))) :
    ((slotM n' h').view.loc (c' : Thread nD τ) ↦[(slotM n' h').view.set]{fullShare}
        ((slotM n' h').view.write (Elt F) fd ((slotM n h).view.read (Elt F) ((slotV n h).rep X)) Finset.univ) : sProp 𝕄)
      ⊢ slotPts c' n' h' fullShare X := by
  unfold slotPts
  have hr : (slotM n h).view.read (Elt F) ((slotV n h).rep X)
      = fun y => X (Shape.reshapeEquiv squeezes_S1x16x512_S16x512.numel_eq y) := funext fun y => by
    show (slotV n h).read (Elt F) ((slotV n h).rep X) _ = _
    rw [View.read_rep]; rfl
  rw [hr, slotM_set]
  refine Entails.of_eq (pointsTo_congr fun i hi => ?_)
  obtain ⟨x, -, rfl⟩ := Finset.mem_map.mp hi
  show ((slotV n' h').reshape S16x512 _).write (Elt F) fd _ Finset.univ ((slotV n' h').emb x) = _
  rw [View.write_reshape_univ, View.write_emb_of_mem _ _ (Finset.mem_univ _), View.rep_emb, Equiv.apply_symm_apply]

/-! ## The schedule -/

section Schedule
variable (I : In F)

/-- The credit each barrier signal brings device `p` from the device at offset `o`: the slots that device lets `p`
    write, and that the cells their copies credit are open. -/
def barPay (p : Dev nD) (o : Fin 6) : sProp 𝕄 :=
  bigSep Finset.univ fun i : Fin 72 =>
    if oi i = o then iprop(slotAny (px p i) (ln i) (ln_lt i) ∗ reached ER (recvCell (px p i) i) 0) else iprop(emp)

/-- What the own send cell returns: one share of the source slot. -/
def sendPay (p : Dev nD) (i : Fin 72) : sProp 𝕄 :=
  slotPts p (4 * (qi i).val) (src_lt (qi i)) (shares3 fullShare ⟨i.val % 3, Nat.mod_lt _ (by decide)⟩) (srcV I p (qi i))

/-- What a recv cell returns: the slot, at what the peer sent. -/
def recvPay (p : Dev nD) (i : Fin 72) : sProp 𝕄 := slotPts p (ln i) (ln_lt i) fullShare (landV I p i)

instance barPay_storable (p : Dev nD) (o : Fin 6) : BI.Storable (upEmb : UEmb _ 𝕄) (barPay (F := F) p o) := by
  unfold barPay
  have (i : Fin 72) : BI.Storable (upEmb : UEmb _ 𝕄) (if oi i = o then iprop(slotAny (px p i) (ln i) (ln_lt i) ∗ reached ER (recvCell (px p i) i) 0) else iprop(emp) : sProp 𝕄) := by
    split <;> infer_instance
  infer_instance
instance sendPay_storable (p : Dev nD) (i : Fin 72) : BI.Storable (upEmb : UEmb _ 𝕄) (sendPay I p i) := by
  unfold sendPay; infer_instance
instance recvPay_storable (p : Dev nD) (i : Fin 72) : BI.Storable (upEmb : UEmb _ 𝕄) (recvPay I p i) := by
  unfold recvPay; infer_instance

def dutiesOf : Role → Finset (Fin 6)
  | .bar => Finset.univ
  | .send _ => {0}
  | .recv _ => {0}
  | .other => ∅
def payOf (p : Dev nD) (d : Fin 6) : Role → sProp 𝕄
  | .bar => barPay p d
  | .send i => sendPay I p i
  | .recv i => recvPay I p i
  | .other => iprop(emp)

/-- Every cell is used in its round 0 only: the barrier gathers six signals, a copy's two cells one copy each. -/
def Rd : Rounds.Schedule (GSem nD τ sig) (Fin 6) 𝕄 where
  duties g r := if r = 0 ∧ g.1.2 = .tc then dutiesOf (role g.2) else ∅
  amount g _ _ := if role g.2 = .bar then 1 else N
  payload g _ d := payOf I g.1.1 d (role g.2)
  amount_pos g _ _ _ := by
    by_cases h : role g.2 = .bar
    · rw [if_pos h]; exact Nat.one_pos
    · rw [if_neg h]; exact N_pos

instance Rd_payload_storable (g : GSem nD τ sig) (r : ℕ) (d : Fin 6) : BI.Storable (upEmb : UEmb _ 𝕄) ((Rd I).payload g r d) := by
  show BI.Storable upEmb (payOf I g.1.1 d (role g.2))
  cases role g.2 <;> dsimp only [payOf] <;> infer_instance

theorem duties_bar (c : Dev nD) : (Rd I).duties (barCell c) 0 = Finset.univ := by
  dsimp only [Rd]; rw [if_pos ⟨rfl, rfl⟩, role_bar]; rfl
theorem duties_send (c : Dev nD) (i : Fin 72) : (Rd I).duties (sendCell c i) 0 = {0} := by
  dsimp only [Rd]; rw [if_pos ⟨rfl, rfl⟩, role_send]; rfl
theorem duties_recv (c : Dev nD) (i : Fin 72) : (Rd I).duties (recvCell c i) 0 = {0} := by
  dsimp only [Rd]; rw [if_pos ⟨rfl, rfl⟩, role_recv]; rfl
theorem duties_later (g : GSem nD τ sig) : ∀ r, 1 ≤ r → (Rd I).duties g r = ∅ := fun r hr => by
  dsimp only [Rd]; rw [if_neg (fun h => by omega)]

theorem amount_bar (c : Dev nD) (d : Fin 6) : (Rd I).amount (barCell c) 0 d = 1 := by
  dsimp only [Rd]; rw [role_bar]; exact if_pos rfl
theorem amount_send (c : Dev nD) (i : Fin 72) (d : Fin 6) : (Rd I).amount (sendCell c i) 0 d = N := by
  dsimp only [Rd]; rw [role_send]; exact if_neg (fun h => by cases h)
theorem amount_recv (c : Dev nD) (i : Fin 72) (d : Fin 6) : (Rd I).amount (recvCell c i) 0 d = N := by
  dsimp only [Rd]; rw [role_recv]; exact if_neg (fun h => by cases h)

theorem expect_bar (c : Dev nD) : (Rd I).expect (barCell c) 0 = 6 := by
  unfold Schedule.expect Schedule.amountOf
  rw [duties_bar, Finset.sum_congr rfl fun d _ => amount_bar I c d]; rfl
theorem expect_send (c : Dev nD) (i : Fin 72) : (Rd I).expect (sendCell c i) 0 = N := by
  unfold Schedule.expect Schedule.amountOf; rw [duties_send, Finset.sum_singleton, amount_send]
theorem expect_recv (c : Dev nD) (i : Fin 72) : (Rd I).expect (recvCell c i) 0 = N := by
  unfold Schedule.expect Schedule.amountOf; rw [duties_recv, Finset.sum_singleton, amount_recv]

theorem payload_bar (c : Dev nD) (d : Fin 6) : (Rd I).payload (barCell c) 0 d = barPay c d := by
  dsimp only [Rd]; rw [role_bar]; rfl
theorem payload_send (c : Dev nD) (i : Fin 72) (d : Fin 6) : (Rd I).payload (sendCell c i) 0 d = sendPay I c i := by
  dsimp only [Rd]; rw [role_send]; rfl
theorem payload_recv (c : Dev nD) (i : Fin 72) (d : Fin 6) : (Rd I).payload (recvCell c i) 0 d = recvPay I c i := by
  dsimp only [Rd]; rw [role_recv]; rfl

theorem rest_send (c : Dev nD) (i : Fin 72) :
    bigSep ((Rd I).duties (sendCell c i) 0 \ ∅) (fun u => (Rd I).payload (sendCell c i) 0 u) = sendPay I c i := by
  rw [Finset.sdiff_empty, duties_send, bigSep_singleton, payload_send]
theorem rest_recv (c : Dev nD) (i : Fin 72) :
    bigSep ((Rd I).duties (recvCell c i) 0 \ ∅) (fun u => (Rd I).payload (recvCell c i) 0 u) = recvPay I c i := by
  rw [Finset.sdiff_empty, duties_recv, bigSep_singleton, payload_recv]
/-- All six signals together: every slot this device may write. -/
theorem rest_bar (c : Dev nD) :
    bigSep ((Rd I).duties (barCell c) 0 \ ∅) (fun u => (Rd I).payload (barCell c) 0 u)
      = bigSep Finset.univ fun i : Fin 72 => iprop(slotAny (px c i) (ln i) (ln_lt i) ∗ reached ER (recvCell (px c i) i) 0) := by
  rw [Finset.sdiff_empty, duties_bar, bigSep_congr (fun d _ => payload_bar I c d)]
  unfold barPay
  rw [bigSep_univ_comm]
  refine bigSep_congr fun i _ => ?_
  have e := bigSep_filter Finset.univ (fun o => oi i = o)
      (fun _ => (iprop(slotAny (px c i) (ln i) (ln_lt i) ∗ reached ER (recvCell (px c i) i) 0) : sProp 𝕄))
  rw [Finset.filter_eq, if_pos (Finset.mem_univ _), bigSep_singleton] at e
  exact e.symm

end Schedule

/-! ## What a device owes; the levels -/

/-- What is owed for the steps from number `a` on. -/
def owedFrom {n : ℕ} (T : Fin n → CellTallies nD τ sig Unit) (a : ℕ) : CellTallies nD τ sig Unit :=
  ∑ i ∈ Finset.univ.filter (fun i : Fin n => a ≤ i.val), T i

theorem owedFrom_step {n : ℕ} (T : Fin n → CellTallies nD τ sig Unit) (a : Fin n) :
    owedFrom T a.val = owedFrom T (a.val + 1) + T a := by
  unfold owedFrom
  rw [show (Finset.univ.filter fun i : Fin n => a.val ≤ i.val) = insert a (Finset.univ.filter fun i : Fin n => a.val + 1 ≤ i.val) from by
    ext i; simp only [Finset.mem_filter, Finset.mem_univ, true_and, Finset.mem_insert, Fin.ext_iff]; omega,
    Finset.sum_insert (by simp), add_comm]

theorem owedFrom_end {n : ℕ} (T : Fin n → CellTallies nD τ sig Unit) (a : ℕ) (h : n ≤ a) : owedFrom T a = 0 := by
  unfold owedFrom
  rw [Finset.filter_false_of_mem fun i _ => by have := i.isLt; omega, Finset.sum_empty]

/-- The barrier unit of offset `o`, and the landing units of copy `i`. -/
abbrev barOwe (c : Dev nD) (o : Fin 6) : CellTallies nD τ sig Unit := tallyAt (barCell (peer o c)) () 1
abbrev copyOwe (c : Dev nD) (i : Fin 72) : CellTallies nD τ sig Unit := tallyAt (recvCell (px c i) i) () N

def owedCopies (c : Dev nD) (a : ℕ) : CellTallies nD τ sig Unit := owedFrom (copyOwe c) a
def O₀ (c : Dev nD) : CellTallies nD τ sig Unit := owedCopies c 0 + owedFrom (barOwe c) 0

theorem owedFrom_pos {n : ℕ} {cell : Fin n → GSem nD τ sig} {k : ℕ} {a : ℕ} {g : GSem nD τ sig} {u : Unit}
    (h : 0 < owedFrom (fun i => (tallyAt (cell i) () k : CellTallies nD τ sig Unit)) a g u) : ∃ i, a ≤ i.val ∧ g = cell i := by
  unfold owedFrom at h
  rw [Finset.sum_apply, Finsupp.finset_sum_apply] at h
  obtain ⟨i, hi, h'⟩ := Finset.exists_ne_zero_of_sum_ne_zero (Nat.pos_iff_ne_zero.mp h)
  rw [tallyAt_apply] at h'
  split at h'
  · next hg => exact ⟨i, (Finset.mem_filter.mp hi).2, hg.1⟩
  · exact absurd rfl h'

def L (g : GSem nD τ sig) : Finset Unit := if g.1.2 = .tc then {()} else ∅
def lvR : Role → ℕ
  | .bar => 1
  | .recv i => i.val + 2
  | _ => 0
def lv (g : GSem nD τ sig) (_ : Unit) : ℕ := lvR (role g.2)

theorem L_of_ne (g : GSem nD τ sig) (h : g.1.2 ≠ .tc) : L g = ∅ := if_neg h
theorem L_tc (c : Dev nD) (sm : SemLoc sig) : L ((c : Thread nD τ), sm) = {()} := if_pos rfl

theorem owedCopies_pos {c : Dev nD} {a : ℕ} {g : GSem nD τ sig} {u : Unit} (h : 0 < owedCopies c a g u) :
    ∃ i, a ≤ i.val ∧ g = recvCell (px c i) i := owedFrom_pos h

/-- A device that has started the first `a` copies may wait at any cell below them. -/
theorem mayWait (c : Dev nD) (sm : SemLoc sig) (a : ℕ) (h : lvR (role sm) < a + 2) :
    (levAts L lv : sProp 𝕄) ⊢ MayWait (c : Thread nD τ) sm () (owedCopies c a) :=
  MayOwe.of_cut (L := L) (lev := lv) (lvR (role sm))
    (fun p hp => by rw [Finset.mem_singleton.mp hp, L_tc]; exact Finset.mem_singleton_self _)
    (fun g u hg => by
      obtain ⟨i, -, rfl⟩ := owedCopies_pos hg
      rw [L_tc]; exact Finset.mem_singleton_self _)
    (fun p hp => by rw [Finset.mem_singleton.mp hp]; exact Nat.le_refl _)
    (fun g u hg => by
      obtain ⟨i, hi, rfl⟩ := owedCopies_pos hg
      show lvR (role sm) < lvR (role (.dma (recvSem i)))
      rw [role_recv]; show lvR (role sm) < i.val + 2; omega)

theorem mayWait_bar (c : Dev nD) : (levAts L lv : sProp 𝕄) ⊢ MayWait (c : Thread nD τ) (.reg barS) () (owedCopies c 0) :=
  mayWait c _ 0 (by rw [role_bar]; decide)
theorem mayWait_send (c : Dev nD) (i : Fin 72) (a : ℕ) : (levAts L lv : sProp 𝕄) ⊢ MayWait (c : Thread nD τ) (.dma (sendSem i)) () (owedCopies c a) :=
  mayWait c _ a (by rw [role_send]; show 0 < a + 2; omega)
theorem mayWait_recv (c : Dev nD) (i : Fin 72) (a : ℕ) (h : i.val < a) : (levAts L lv : sProp 𝕄) ⊢ MayWait (c : Thread nD τ) (.dma (recvSem i)) () (owedCopies c a) :=
  mayWait c _ a (by rw [role_recv]; show i.val + 2 < a + 2; omega)

end Cert.KernelIdeal

end
-- ==== Proof.KernelIdeal.State.lean ====
/-
  What a device holds while it runs the kernel, and what each kind of statement does to it.

  The state is a function of five counters: `s` source slots stored, `a` copies started, `b` landings waited for,
  `d` own copies waited for, `n` row quarters of the result stored. Every family of holdings is a separated
  conjunction over all copies (or all exchanges) whose member is read off the counters, so one statement changes one
  member of one or two families.
-/
module

public import proofs.«01_k».proof.Proof.KernelIdeal.Sched

@[expose] public section

noncomputable section

namespace Cert.KernelIdeal

open Idealize.ShloMosaic Idealize.ShloMosaic.TcCoe
open Idealize.SL Idealize.SL.RA Idealize.SL.BI Idealize.SL.BI.Laws Idealize.SL.Sem Idealize.SL.ProofMode
open scoped Idealize.SL.BI
open Idealize.SL.BI.BIBase
open Idealize.ShloMosaic.Rounds
open Gen
open Idealize.ShloMosaic.Ring (shares3 pointsTo_thirds)
open Idealize.ShloMosaic.Pipeline (Dat Cfg Window BodyObligation cellOf)

variable {F : FTy → Type} [FloatOps F]

local notation "𝕄" => MT nD τ sig Unit (Elt F) ℕ UU ℕ

/-! ## A family changed at one member -/

theorem bigSep_pick {ι : Type} [Fintype ι] [DecidableEq ι] (Φ : ι → sProp 𝕄) (i : ι) : bigSep Finset.univ Φ ⊢ Φ i := bigSep_elim (Finset.mem_univ i)

/-- Take member `a` out of a family; put a new member back and the family is the changed one. -/
theorem bigSep_at {ι : Type} [Fintype ι] [DecidableEq ι] (a : ι) (Φ Ψ : ι → sProp 𝕄) (h : ∀ i, i ≠ a → Φ i = Ψ i) :
    bigSep Finset.univ Φ ⊢ iprop(Φ a ∗ (Ψ a -∗ bigSep Finset.univ Ψ)) := by
  rw [bigSep_univ_at Φ a, bigSep_univ_at Ψ a, bigSep_congr (s := Finset.univ.erase a) fun i hi => h i (Finset.ne_of_mem_erase hi)]
  iintro ⟨Ha, Hr⟩
  isplitl [Ha]; · iexact Ha
  iintro Hb
  isplitl [Hb]; · iexact Hb
  iexact Hr

/-- Take member `a` out of a family for good, where the changed family holds nothing there. -/
theorem bigSep_drop {ι : Type} [Fintype ι] [DecidableEq ι] (a : ι) (Φ Ψ : ι → sProp 𝕄) (h : ∀ i, i ≠ a → Φ i = Ψ i)
    (ha : Ψ a = iprop(emp)) : bigSep Finset.univ Φ ⊢ iprop(Φ a ∗ bigSep Finset.univ Ψ) := by
  refine (bigSep_at a Φ Ψ h).trans ?_
  rw [ha]
  iintro ⟨Ha, Hw⟩
  isplitl [Ha]; · iexact Ha
  iapply Hw; iempintro

/-- A family held from number `a` on gives up member `a`. -/
theorem bigSep_from {n : ℕ} (P : Fin n → sProp 𝕄) (a : Fin n) :
    (bigSep Finset.univ fun i : Fin n => if a.val ≤ i.val then P i else iprop(emp))
      ⊢ iprop(P a ∗ bigSep Finset.univ fun i : Fin n => if a.val + 1 ≤ i.val then P i else iprop(emp)) := by
  refine (bigSep_drop a _ (fun i : Fin n => if a.val + 1 ≤ i.val then P i else iprop(emp)) (fun i hi => ?_) (if_neg (by omega))).trans ?_
  · have : i.val ≠ a.val := fun h => hi (Fin.ext h)
    exact if_congr (by omega) rfl rfl
  · rw [if_pos (Nat.le_refl _)]

/-! ## The operands -/

/-- The eight staging buffers the body is called with. -/
structure Mems where
  m0 : Memref sig .tc .vmem S64x512 .f32
  m1 : Memref sig .tc .vmem S512x1024 .bf16
  m2 : Memref sig .tc .vmem S1024x512 .bf16
  m3 : Memref sig .tc .vmem S512x1024 .bf16
  m4 : Memref sig .tc .vmem S1024x512 .bf16
  m5 : Memref sig .tc .vmem S512x1024 .bf16
  m6 : Memref sig .tc .vmem S1024x512 .bf16
  m7 : Memref sig .tc .vmem S64x512 .f32

/-- An index of a row quarter from an index of the whole. -/
def rowIdx (i : S64x512.Idx) : S16x512.Idx := fun a => match a with
  | ⟨0, _⟩ => ⟨(i (0 : Fin 2)).val % 16, Nat.mod_lt _ (by decide)⟩
  | ⟨1, _⟩ => i (1 : Fin 2)

/-- The result on device `c`. -/
def outX (I : In F) (c : Dev nD) : Vec F S64x512 .f32 := fun i =>
  outv I c ⟨(i (0 : Fin 2)).val / 16, by have h := (i (0 : Fin 2)).isLt; have h' : (i (0 : Fin 2)).val < 64 := h; omega⟩ (rowIdx i)

section State

variable (I : In F) (K : GSem nD τ sig → ℕ) (M : Mems) (c : Dev nD)

/-- The input arrays in their staging buffers. -/
def ins : sProp 𝕄 :=
  iprop(owns (c : Thread nD τ) M.m0 fullShare (I.x c)
    ∗ owns (c : Thread nD τ) M.m1 fullShare (I.win 0 c) ∗ owns (c : Thread nD τ) M.m2 fullShare (I.wout 0 c)
    ∗ owns (c : Thread nD τ) M.m3 fullShare (I.win 1 c) ∗ owns (c : Thread nD τ) M.m4 fullShare (I.wout 1 c)
    ∗ owns (c : Thread nD τ) M.m5 fullShare (I.win 2 c) ∗ owns (c : Thread nD τ) M.m6 fullShare (I.wout 2 c))

/-- The first `n` row quarters of the result are stored. -/
def outF (n : ℕ) : sProp 𝕄 :=
  iprop(∃ X : Vec F S64x512 .f32, ⌜∀ i, (i (0 : Fin 2)).val < 16 * n → X i = outX I c i⌝ ∗ owns (c : Thread nD τ) M.m7 fullShare X)

/-- Every cell's invariant, the barrier cells' first round, and the levels. -/
def recs : sProp 𝕄 :=
  iprop((bigSep Finset.univ fun p : Dev nD => cellInv ER (Rd I) (K (barCell p)) (barCell p))
    ∗ (bigSep Finset.univ fun pi : Dev nD × Fin 72 => cellInv ER (Rd I) (K (sendCell pi.1 pi.2)) (sendCell pi.1 pi.2))
    ∗ (bigSep Finset.univ fun pi : Dev nD × Fin 72 => cellInv ER (Rd I) (K (recvCell pi.1 pi.2)) (recvCell pi.1 pi.2))
    ∗ (bigSep Finset.univ fun p : Dev nD => reached ER (barCell p) 0)
    ∗ levAts L lv)

instance recs_persistent : BI.Persistent (recs I K) := by unfold recs; infer_instance

theorem recs_bar (p : Dev nD) : recs I K ⊢ cellInv ER (Rd I) (K (barCell p)) (barCell p) := by
  unfold recs; iintro ⟨H, -⟩; iapply (bigSep_pick (fun p : Dev nD => cellInv ER (Rd I) (K (barCell p)) (barCell p)) p) $$ H
theorem recs_send (p : Dev nD) (i : Fin 72) : recs I K ⊢ cellInv ER (Rd I) (K (sendCell p i)) (sendCell p i) := by
  unfold recs; iintro ⟨-, H, -⟩; iapply (bigSep_pick (fun pi : Dev nD × Fin 72 => cellInv ER (Rd I) (K (sendCell pi.1 pi.2)) (sendCell pi.1 pi.2)) (p, i)) $$ H
theorem recs_recv (p : Dev nD) (i : Fin 72) : recs I K ⊢ cellInv ER (Rd I) (K (recvCell p i)) (recvCell p i) := by
  unfold recs; iintro ⟨-, -, H, -⟩; iapply (bigSep_pick (fun pi : Dev nD × Fin 72 => cellInv ER (Rd I) (K (recvCell pi.1 pi.2)) (recvCell pi.1 pi.2)) (p, i)) $$ H
theorem recs_reached (p : Dev nD) : recs I K ⊢ reached ER (barCell p) 0 := by
  unfold recs; iintro ⟨-, -, -, H, -⟩; iapply (bigSep_pick (fun p : Dev nD => (reached ER (barCell p) 0 : sProp 𝕄)) p) $$ H
theorem recs_lev : recs I K ⊢ levAts L lv := by
  unfold recs; iintro ⟨-, -, -, -, H⟩; iexact H

/-- The duty tokens of the copies from number `a` on. -/
def tokF (a : ℕ) : sProp 𝕄 := bigSep Finset.univ fun i : Fin 72 =>
  if a ≤ i.val then iprop(dutyTok ER (sendCell c i) 0 0 ∗ dutyTok ER (recvCell (px c i) i) 0 0) else iprop(emp)
/-- The peers' slots the copies from number `a` on go to. -/
def dstF (a : ℕ) : sProp 𝕄 := bigSep Finset.univ fun i : Fin 72 =>
  if a ≤ i.val then iprop(slotAny (px c i) (ln i) (ln_lt i) ∗ reached ER (recvCell (px c i) i) 0) else iprop(emp)
/-- The own send cells: waited for below `d`, in flight below `a`, unused from there on. -/
def sndF (a d : ℕ) : sProp 𝕄 := bigSep Finset.univ fun i : Fin 72 =>
  if i.val < d then iprop(semVal (sendCell c i) 0 ∗ sendPay I c i)
  else iprop(atPos ER (sendCell c i) 0 ∅ 0 ∗ if i.val < a then cred (tallyAt (sendCell c i) () N) else reached ER (sendCell c i) 0)
/-- The own recv cells: waited for below `b`. -/
def rcvF (b : ℕ) : sProp 𝕄 := bigSep Finset.univ fun i : Fin 72 =>
  if i.val < b then iprop(semVal (recvCell c i) 0 ∗ recvPay I c i)
  else iprop(atPos ER (recvCell c i) 0 ∅ 0 ∗ cred (tallyAt (recvCell c i) () N))
/-- The copy that share `j` of source slot `q` is for. -/
def cp (q : Fin 24) (j : Fin 3) : Fin 72 := ⟨3 * q.val + j.val, by have := q.isLt; have := j.isLt; omega⟩
/-- The own source slots: not stored from `s` on; below, the shares of the copies from number `a` on. -/
def srcF (s a : ℕ) : sProp 𝕄 := bigSep Finset.univ fun q : Fin 24 =>
  if s ≤ q.val then slotAny c (4 * q.val) (src_lt q)
  else bigSep Finset.univ fun j : Fin 3 => if a ≤ 3 * q.val + j.val then sendPay I c (cp q j) else iprop(emp)

/-- The protocol's part of the state during the exchanges. -/
def midF (s a b d : ℕ) : sProp 𝕄 :=
  iprop(tokF c a ∗ dstF c a ∗ sndF I c a d ∗ rcvF I c b ∗ srcF I c s a ∗ semVal (barCell c) 0
    ∗ ∃ W, owes (c : Thread nD τ) (owedCopies c a) W)

/-- The state during the exchanges. -/
abbrev St (s a b d n : ℕ) : sProp 𝕄 := iprop((recs I K ∗ midF I c s a b d ∗ outF I M c n) ∗ ins I M c)

/-- What the barrier still needs: tokens and what the signals from number `t` on hand over. -/
def barF (t : ℕ) : sProp 𝕄 := bigSep Finset.univ fun o : Fin 6 =>
  if t ≤ o.val then iprop(dutyTok ER (barCell (peer o c)) 0 o ∗ barPay (peer o c) o) else iprop(emp)

/-- The protocol's part of the state before the barrier. -/
def preF (t : ℕ) : sProp 𝕄 :=
  iprop(barF c t ∗ tokF c 0 ∗ sndF I c 0 0 ∗ rcvF I c 0 ∗ srcF I c 0 0
    ∗ (atPos ER (barCell c) 0 ∅ 0 ∗ cred (tallyAt (barCell c) () 6))
    ∗ ∃ W, owes (c : Thread nD τ) (owedCopies c 0 + owedFrom (barOwe c) t) W)

/-- The state before the barrier, `t` signals sent. -/
abbrev St0 (t : ℕ) : sProp 𝕄 := iprop((recs I K ∗ preF I c t ∗ outF I M c 0) ∗ ins I M c)

end State

/-! ## Steps on the families -/

section Families

variable (I : In F) (c : Dev nD)

theorem tokF_step (a : Fin 72) : tokF c a.val
    ⊢ (iprop((dutyTok ER (sendCell c a) 0 0 ∗ dutyTok ER (recvCell (px c a) a) 0 0) ∗ tokF c (a.val + 1)) : sProp 𝕄) := by
  unfold tokF; exact bigSep_from _ _

theorem dstF_step (a : Fin 72) : dstF c a.val
    ⊢ (iprop((slotAny (px c a) (ln a) (ln_lt a) ∗ reached ER (recvCell (px c a) a) 0) ∗ dstF c (a.val + 1)) : sProp 𝕄) := by
  unfold dstF; exact bigSep_from _ _

theorem barF_step (t : Fin 6) : barF c t.val
    ⊢ (iprop((dutyTok ER (barCell (peer t c)) 0 t ∗ barPay (peer t c) t) ∗ barF c (t.val + 1)) : sProp 𝕄) := by
  unfold barF; exact bigSep_from _ _

theorem sndF_start (a : Fin 72) (d : ℕ) (h : d ≤ a.val) : sndF I c a.val d
    ⊢ iprop(reached ER (sendCell c a) 0 ∗ (cred (tallyAt (sendCell c a) () N) -∗ sndF I c (a.val + 1) d)) := by
  unfold sndF
  refine (bigSep_at a _ (fun i : Fin 72 => if i.val < d then iprop(semVal (sendCell c i) 0 ∗ sendPay I c i)
      else iprop(atPos ER (sendCell c i) 0 ∅ 0 ∗ if i.val < a.val + 1 then cred (tallyAt (sendCell c i) () N) else reached ER (sendCell c i) 0))
      (fun i hi => ?_)).trans ?_
  · have : i.val ≠ a.val := fun h => hi (Fin.ext h)
    exact if_congr Iff.rfl rfl (congrArg _ (if_congr (by omega) rfl rfl))
  · rw [if_neg (by omega), if_neg (by omega), if_neg (by omega), if_pos (by omega)]
    iintro ⟨⟨Ha, Hr⟩, Hw⟩
    isplitl [Hr]; · iexact Hr
    iintro Hc
    iapply Hw
    isplitl [Ha] <;> iassumption

theorem sndF_wait (a : ℕ) (d : Fin 72) (h : d.val < a) : sndF I c a d.val
    ⊢ iprop((atPos ER (sendCell c d) 0 ∅ 0 ∗ cred (tallyAt (sendCell c d) () N))
      ∗ (semVal (sendCell c d) 0 ∗ sendPay I c d -∗ sndF I c a (d.val + 1))) := by
  unfold sndF
  refine (bigSep_at d _ (fun i : Fin 72 => if i.val < d.val + 1 then iprop(semVal (sendCell c i) 0 ∗ sendPay I c i)
      else iprop(atPos ER (sendCell c i) 0 ∅ 0 ∗ if i.val < a then cred (tallyAt (sendCell c i) () N) else reached ER (sendCell c i) 0))
      (fun i hi => ?_)).trans ?_
  · have : i.val ≠ d.val := fun h => hi (Fin.ext h)
    exact if_congr (by omega) rfl rfl
  · rw [if_neg (by omega), if_pos (by omega), if_pos (by omega)]

theorem rcvF_wait (b : Fin 72) : rcvF I c b.val
    ⊢ iprop((atPos ER (recvCell c b) 0 ∅ 0 ∗ cred (tallyAt (recvCell c b) () N))
      ∗ (semVal (recvCell c b) 0 ∗ recvPay I c b -∗ rcvF I c (b.val + 1))) := by
  unfold rcvF
  refine (bigSep_at b _ (fun i : Fin 72 => if i.val < b.val + 1 then iprop(semVal (recvCell c i) 0 ∗ recvPay I c i)
      else iprop(atPos ER (recvCell c i) 0 ∅ 0 ∗ cred (tallyAt (recvCell c i) () N))) (fun i hi => ?_)).trans ?_
  · have : i.val ≠ b.val := fun h => hi (Fin.ext h)
    exact if_congr (by omega) rfl rfl
  · rw [if_neg (by omega), if_pos (by omega)]

theorem rcvF_read (b : ℕ) (i : Fin 72) (h : i.val < b) : rcvF I c b ⊢ iprop(recvPay I c i ∗ (recvPay I c i -∗ rcvF I c b)) := by
  unfold rcvF
  refine (bigSep_at i _ _ (fun j hj => rfl)).trans ?_
  rw [if_pos h]
  iintro ⟨⟨Hs, Hp⟩, Hw⟩
  isplitl [Hp]; · iexact Hp
  iintro Hp
  iapply Hw
  isplitl [Hs] <;> iassumption

theorem srcF_peek (s a : ℕ) (q : Fin 24) (h : s ≤ q.val) : srcF I c s a
    ⊢ iprop(slotAny c (4 * q.val) (src_lt q) ∗ (slotAny c (4 * q.val) (src_lt q) -∗ srcF I c s a)) := by
  unfold srcF
  refine (bigSep_at q _ _ (fun j hj => rfl)).trans ?_
  rw [if_pos h]

/-- A source slot held whole is held in three shares, one per copy. -/
theorem src_shares (q : Fin 24) : (slotPts c (4 * q.val) (src_lt q) fullShare (srcV I c q) : sProp 𝕄)
    ⊢ bigSep Finset.univ fun j : Fin 3 => sendPay I c (cp q j) := by
  have e : ∀ j : Fin 3, sendPay I c (cp q j) = (slotPts c (4 * q.val) (src_lt q) (shares3 fullShare j) (srcV I c q) : sProp 𝕄) := fun j => by
    have hq : qi (cp q j) = q := Fin.ext (by show (3 * q.val + j.val) / 3 = q.val; omega)
    have hj : (⟨(cp q j).val % 3, Nat.mod_lt _ (by decide)⟩ : Fin 3) = j := Fin.ext (by show (3 * q.val + j.val) % 3 = j.val; omega)
    unfold sendPay; rw [hj]; congr 1 <;> rw [hq]
  rw [bigSep_congr (s := Finset.univ) fun j _ => e j, show (Finset.univ : Finset (Fin 3)) = {0, 1, 2} from by decide,
    bigSep_insert (by decide), bigSep_insert (by decide), bigSep_singleton]
  exact (pointsTo_thirds fullShare _).1

theorem srcF_store (s : Fin 24) (a : ℕ) (ha : a ≤ 3 * s.val) : srcF I c s.val a
    ⊢ iprop(slotAny c (4 * s.val) (src_lt s) ∗ (slotPts c (4 * s.val) (src_lt s) fullShare (srcV I c s) -∗ srcF I c (s.val + 1) a)) := by
  unfold srcF
  refine (bigSep_at s _ (fun q : Fin 24 => if s.val + 1 ≤ q.val then slotAny c (4 * q.val) (src_lt q)
      else bigSep Finset.univ fun j : Fin 3 => if a ≤ 3 * q.val + j.val then sendPay I c (cp q j) else iprop(emp)) (fun q hq => ?_)).trans ?_
  · have : q.val ≠ s.val := fun h => hq (Fin.ext h)
    exact if_congr (by omega) rfl rfl
  · rw [if_pos (Nat.le_refl _), if_neg (by omega), bigSep_congr (s := Finset.univ) fun (j : Fin 3) _ => if_pos (show a ≤ 3 * s.val + j.val by omega)]
    iintro ⟨Ha, Hw⟩
    isplitl [Ha]; · iexact Ha
    iintro Hp
    iapply Hw
    iapply (src_shares I c s) $$ Hp

theorem srcF_take (s : ℕ) (a : Fin 72) (h : a.val / 3 < s) : srcF I c s a.val ⊢ iprop(sendPay I c a ∗ srcF I c s (a.val + 1)) := by
  unfold srcF
  have hj : (⟨a.val % 3, Nat.mod_lt _ (by decide)⟩ : Fin 3).val = a.val % 3 := rfl
  have hcp : cp (qi a) ⟨a.val % 3, Nat.mod_lt _ (by decide)⟩ = a := Fin.ext (by show 3 * (a.val / 3) + a.val % 3 = a.val; omega)
  have hqi : (qi a).val = a.val / 3 := rfl
  refine (bigSep_at (qi a) _ (fun q : Fin 24 => if s ≤ q.val then slotAny c (4 * q.val) (src_lt q)
      else bigSep Finset.univ fun j : Fin 3 => if a.val + 1 ≤ 3 * q.val + j.val then sendPay I c (cp q j) else iprop(emp)) (fun q hq => ?_)).trans ?_
  · have hne : q.val ≠ a.val / 3 := fun h => hq (Fin.ext h)
    refine if_congr Iff.rfl rfl (bigSep_congr fun j _ => if_congr ?_ rfl rfl)
    have := j.isLt; omega
  · rw [if_neg (by omega), if_neg (by omega)]
    have hd := bigSep_drop (F := F) (⟨a.val % 3, Nat.mod_lt _ (by decide)⟩ : Fin 3)
      (fun j : Fin 3 => if a.val ≤ 3 * (qi a).val + j.val then sendPay I c (cp (qi a) j) else iprop(emp))
      (fun j : Fin 3 => if a.val + 1 ≤ 3 * (qi a).val + j.val then sendPay I c (cp (qi a) j) else iprop(emp))
      (fun j hj => by
        have hne : j.val ≠ a.val % 3 := fun h => hj (Fin.ext h)
        exact if_congr (by omega) rfl rfl)
      (if_neg (by dsimp only; omega))
    dsimp only at hd
    rw [if_pos (by omega), hcp] at hd
    iintro ⟨Ha, Hw⟩
    ihave Ha := hd $$ Ha
    icases Ha with ⟨Ha, Hr⟩
    isplitl [Ha]; · iexact Ha
    iapply Hw; iexact Hr

end Families

end Cert.KernelIdeal

end
-- ==== Proof.KernelIdeal.Slots.lean ====
/-
  One device's scratch buffer and semaphore cells, before and after its run.

  The scratch buffer arrives whole and leaves whole; in between it is held slot by slot: 24 source slots and 72
  landing slots. On the way in the landing slots go into what the six barrier signals hand over; on the way out
  they come back with what the waits return.
-/
module

public import proofs.«01_k».proof.Proof.KernelIdeal.State

@[expose] public section

set_option maxRecDepth 8000

noncomputable section

namespace Cert.KernelIdeal

open Idealize.ShloMosaic Idealize.ShloMosaic.TcCoe
open Idealize.SL Idealize.SL.RA Idealize.SL.BI Idealize.SL.BI.Laws Idealize.SL.Sem Idealize.SL.ProofMode
open scoped Idealize.SL.BI
open Idealize.SL.BI.BIBase
open Idealize.ShloMosaic.Rounds
open Gen
open Idealize.ShloMosaic.Ring (shares3 pointsTo_thirds pointsTo_blocks pointsTo_blocks_join_exists)

variable {F : FTy → Type} [FloatOps F]

local notation "𝕄" => MT nD τ sig Unit (Elt F) ℕ UU ℕ

/-- A family weakened member by member. -/
theorem family_mono {ι : Type} [Fintype ι] {Φ Ψ : ι → sProp 𝕄} (h : ∀ i, Φ i ⊢ Ψ i) : bigSep Finset.univ Φ ⊢ bigSep Finset.univ Ψ :=
  bigSep_mono fun i _ => h i

/-- Two families held side by side are the family of pairs. -/
theorem family_zip {ι : Type} [Fintype ι] [DecidableEq ι] {Φ Ψ : ι → sProp 𝕄} :
    iprop(bigSep Finset.univ Φ ∗ bigSep Finset.univ Ψ) ⊢ bigSep Finset.univ fun i => iprop(Φ i ∗ Ψ i) :=
  Entails.of_eq (bigSep_sep' _ _ _).symm
theorem family_unzip {ι : Type} [Fintype ι] [DecidableEq ι] {Φ Ψ : ι → sProp 𝕄} :
    (bigSep Finset.univ fun i => iprop(Φ i ∗ Ψ i)) ⊢ iprop(bigSep Finset.univ Φ ∗ bigSep Finset.univ Ψ) :=
  Entails.of_eq (bigSep_sep' _ _ _)

/-! ## The slots of the scratch buffer -/

/-- The slot of a source or of a landing. -/
def slotNo : Fin 24 ⊕ Fin 72 → ℕ
  | .inl q => 4 * q.val
  | .inr i => ln i
theorem slotNo_lt (b : Fin 24 ⊕ Fin 72) : slotNo b < 96 := by
  cases b with
  | inl q => exact src_lt q
  | inr i => exact ln_lt i
theorem slotNo_inj {b b' : Fin 24 ⊕ Fin 72} (h : slotNo b = slotNo b') : b = b' := by
  rcases b with q | i <;> rcases b' with q' | i' <;> dsimp only [slotNo, ln] at h
  · exact congrArg Sum.inl (Fin.ext (by omega))
  · omega
  · omega
  · exact congrArg Sum.inr (Fin.ext (by omega))
theorem slotNo_surj (n : ℕ) (h : n < 96) : ∃ b, slotNo b = n := by
  by_cases h4 : n % 4 = 0
  · exact ⟨.inl ⟨n / 4, by omega⟩, by dsimp only [slotNo]; omega⟩
  · exact ⟨.inr ⟨3 * (n / 4) + (n % 4 - 1), by omega⟩, by dsimp only [slotNo, ln]; omega⟩

/-- The elements of slot `n` are those whose leading coordinate is `n`. -/
theorem mem_slot (n : ℕ) (h : n < 96) (i : S96x16x512.Idx) : i ∈ (slotV n h).set ↔ (i (0 : Fin 3)).val = n := by
  rw [show (slotV n h).set = (Rect.unit (s := S96x16x512) ![n, 0, 0] S1x16x512.size (slot_inb n h)).set from
    View.set_slice_whole cc0_scratch0 _, Rect.mem_set_unit]
  constructor
  · intro hh
    have h0 : n ≤ (i (0 : Fin 3)).val ∧ (i (0 : Fin 3)).val < n + 1 := hh (0 : Fin 3)
    omega
  · intro hh a
    fin_cases a
    · show n ≤ (i (0 : Fin 3)).val ∧ (i (0 : Fin 3)).val < n + 1; omega
    · have hi : (i (1 : Fin 3)).val < 16 := (i (1 : Fin 3)).isLt
      show 0 ≤ (i (1 : Fin 3)).val ∧ (i (1 : Fin 3)).val < 0 + 16; omega
    · have hi : (i (2 : Fin 3)).val < 512 := (i (2 : Fin 3)).isLt
      show 0 ≤ (i (2 : Fin 3)).val ∧ (i (2 : Fin 3)).val < 0 + 512; omega

/-- The element set of a slot, on the buffer itself. -/
def slotSet (b : Fin 24 ⊕ Fin 72) : Finset S96x16x512.Idx := (slotV (slotNo b) (slotNo_lt b)).set

theorem slotSet_disjoint (b b' : Fin 24 ⊕ Fin 72) (h : b ≠ b') : Disjoint (slotSet b) (slotSet b') := by
  rw [Finset.disjoint_left]
  intro i hi hi'
  exact h (slotNo_inj (((mem_slot _ (slotNo_lt b) i).mp hi).symm.trans ((mem_slot _ (slotNo_lt b') i).mp hi')))
theorem slotSet_cover : Finset.univ.biUnion slotSet = Finset.univ := by
  refine Finset.eq_univ_of_forall fun i => ?_
  obtain ⟨b, hb⟩ := slotNo_surj (i (0 : Fin 3)).val (i (0 : Fin 3)).isLt
  exact Finset.mem_biUnion.mpr ⟨b, Finset.mem_univ _, (mem_slot _ (slotNo_lt b) i).mpr hb.symm⟩

section Device

variable (I : In F) (c : Dev nD)

/-- The scratch buffer at contents not chosen. -/
def scr : sProp 𝕄 := iprop(∃ f : Buf (Elt F) ((c : Thread nD τ).loc cc0_scratch0), ((c : Thread nD τ).loc cc0_scratch0) ↦{fullShare} f)

/-- Source slots and landing slots as one family. -/
theorem slots_sum : (bigSep Finset.univ fun b : Fin 24 ⊕ Fin 72 => (slotAny c (slotNo b) (slotNo_lt b) : sProp 𝕄))
    = iprop((bigSep Finset.univ fun q : Fin 24 => slotAny c (4 * q.val) (src_lt q)) ∗ bigSep Finset.univ fun i : Fin 72 => slotAny c (ln i) (ln_lt i)) :=
  bigSep_univ_sum (fun b : Fin 24 ⊕ Fin 72 => (slotAny c (slotNo b) (slotNo_lt b) : sProp 𝕄))

theorem scr_split : (scr c : sProp 𝕄)
    ⊢ iprop((bigSep Finset.univ fun q : Fin 24 => slotAny c (4 * q.val) (src_lt q)) ∗ bigSep Finset.univ fun i : Fin 72 => slotAny c (ln i) (ln_lt i)) := by
  have hb (f : Buf (Elt F) ((c : Thread nD τ).loc cc0_scratch0)) (b : Fin 24 ⊕ Fin 72) :
      ((c : Thread nD τ).loc cc0_scratch0 ↦[slotSet b]{fullShare} f : sProp 𝕄) ⊢ slotAny c (slotNo b) (slotNo_lt b) := by
    unfold slotAny; iintro H; iexists f; iexact H
  rw [← slots_sum]
  unfold scr
  iintro ⟨%f, H⟩
  ihave H := (Entails.of_eq (pointsTo_blocks (ℓ := (c : Thread nD τ).loc cc0_scratch0) slotSet slotSet_disjoint slotSet_cover f)) $$ H
  iapply (family_mono fun b => hb f b) $$ H

theorem scr_join : iprop((bigSep Finset.univ fun q : Fin 24 => slotAny c (4 * q.val) (src_lt q)) ∗ bigSep Finset.univ fun i : Fin 72 => slotAny c (ln i) (ln_lt i))
    ⊢ (scr c : sProp 𝕄) := by
  rw [← slots_sum]
  by_cases hne : Nonempty (Buf (Elt F) ((c : Thread nD τ).loc cc0_scratch0))
  · obtain ⟨f₀⟩ := hne
    exact pointsTo_blocks_join_exists (ℓ := (c : Thread nD τ).loc cc0_scratch0) slotSet slotSet_disjoint slotSet_cover f₀
  · rw [bigSep_univ_at _ (.inl 0)]
    unfold slotAny
    iintro ⟨⟨%f, -⟩, -⟩
    exact absurd ⟨f⟩ hne

/-! ## In -/

/-- What a device has of the protocol when its cells are open. -/
def held0 : sProp 𝕄 :=
  iprop((bigSep Finset.univ fun o : Fin 6 => dutyTok ER (barCell (peer o c)) 0 o)
    ∗ (bigSep Finset.univ fun i : Fin 72 => iprop(dutyTok ER (sendCell c i) 0 0 ∗ dutyTok ER (recvCell (px c i) i) 0 0))
    ∗ (bigSep Finset.univ fun i : Fin 72 => iprop(atPos ER (sendCell c i) 0 ∅ 0 ∗ reached ER (sendCell c i) 0))
    ∗ (bigSep Finset.univ fun i : Fin 72 => iprop((atPos ER (recvCell c i) 0 ∅ 0 ∗ reached ER (recvCell c i) 0) ∗ cred (tallyAt (recvCell c i) () N)))
    ∗ atPos ER (barCell c) 0 ∅ 0 ∗ cred (tallyAt (barCell c) () 6))

/-- The barrier's signals hand over every landing slot once. -/
theorem barPay_all : (bigSep Finset.univ fun o : Fin 6 => (barPay (peer o c) o : sProp 𝕄))
    = bigSep Finset.univ fun i : Fin 72 => iprop(slotAny c (ln i) (ln_lt i) ∗ reached ER (recvCell c i) 0) := by
  unfold barPay
  rw [bigSep_congr (s := Finset.univ) (Ψ := fun o : Fin 6 => bigSep Finset.univ fun i : Fin 72 =>
      if oi i = o then iprop(slotAny c (ln i) (ln_lt i) ∗ reached ER (recvCell c i) 0) else iprop(emp)) fun o _ =>
    bigSep_congr fun i _ => by
      by_cases h : oi i = o
      · rw [if_pos h, if_pos h]
        have e : px (peer o c) i = c := by rw [← h]; exact px_px c i
        rw [e]
      · rw [if_neg h, if_neg h]]
  rw [bigSep_univ_comm]
  refine bigSep_congr fun i _ => ?_
  have e := bigSep_filter Finset.univ (fun o => oi i = o)
      (fun _ => (iprop(slotAny c (ln i) (ln_lt i) ∗ reached ER (recvCell c i) 0) : sProp 𝕄))
  rw [Finset.filter_eq, if_pos (Finset.mem_univ _), bigSep_singleton] at e
  exact e.symm

/-- The landing slots with the facts that their cells are open, and the rest of the recv cells' families. -/
theorem recv_deal (Φ : Fin 72 → sProp 𝕄) :
    iprop((bigSep Finset.univ fun i : Fin 72 => iprop((atPos ER (recvCell c i) 0 ∅ 0 ∗ reached ER (recvCell c i) 0) ∗ cred (tallyAt (recvCell c i) () N)))
        ∗ bigSep Finset.univ Φ)
      ⊢ iprop((bigSep Finset.univ fun i : Fin 72 => iprop(Φ i ∗ reached ER (recvCell c i) 0))
        ∗ bigSep Finset.univ fun i : Fin 72 => iprop(atPos ER (recvCell c i) 0 ∅ 0 ∗ cred (tallyAt (recvCell c i) () N))) := by
  have h (i : Fin 72) : iprop(((atPos ER (recvCell c i) 0 ∅ 0 ∗ reached ER (recvCell c i) 0) ∗ cred (tallyAt (recvCell c i) () N)) ∗ Φ i)
      ⊢ iprop((Φ i ∗ reached ER (recvCell c i) 0) ∗ (atPos ER (recvCell c i) 0 ∅ 0 ∗ cred (tallyAt (recvCell c i) () N))) := by
    iintro ⟨⟨⟨Ha, Hr⟩, Hc⟩, HΦ⟩
    isplitl [HΦ Hr]; · isplitl [HΦ] <;> iassumption
    isplitl [Ha] <;> iassumption
  rw [← bigSep_sep', ← bigSep_sep']
  exact bigSep_mono fun i _ => h i

theorem pre_intro (W : Waits sig Unit) : iprop(held0 c ∗ scr c ∗ owes (c : Thread nD τ) (O₀ c) W) ⊢ preF I c 0 := by
  unfold held0 preF barF tokF sndF rcvF srcF O₀
  simp only [Nat.zero_le, Nat.not_lt_zero, if_true, if_false]
  iintro ⟨⟨Hbt, Htk, Hs, Hr, Hab, Hcb⟩, Hscr, HO⟩
  ihave H := (scr_split c) $$ Hscr
  icases H with ⟨Hsrc, Hln⟩
  ihave H := (recv_deal c (fun i => slotAny c (ln i) (ln_lt i))) $$ [Hr Hln]
  · isplitl [Hr] <;> iassumption
  icases H with ⟨Hln, Hr⟩
  isplitl [Hbt Hln]
  · iapply family_zip
    isplitl [Hbt]; · iexact Hbt
    rw [barPay_all]; iexact Hln
  isplitl [Htk]; · iexact Htk
  isplitl [Hs]; · iexact Hs
  isplitl [Hr]; · iexact Hr
  isplitl [Hsrc]; · iexact Hsrc
  isplitl [Hab Hcb]; · isplitl [Hab] <;> iassumption
  iexists W; iexact HO

/-! ## Out -/

/-- The three shares of a source slot make it whole again. -/
theorem src_whole (q : Fin 24) : (bigSep Finset.univ fun j : Fin 3 => sendPay I c (cp q j)) ⊢ slotAny c (4 * q.val) (src_lt q) := by
  have e : ∀ j : Fin 3, sendPay I c (cp q j) = (slotPts c (4 * q.val) (src_lt q) (shares3 fullShare j) (srcV I c q) : sProp 𝕄) := fun j => by
    have hq : qi (cp q j) = q := Fin.ext (by show (3 * q.val + j.val) / 3 = q.val; omega)
    have hj : (⟨(cp q j).val % 3, Nat.mod_lt _ (by decide)⟩ : Fin 3) = j := Fin.ext (by show (3 * q.val + j.val) % 3 = j.val; omega)
    unfold sendPay; rw [hj]; congr 1 <;> rw [hq]
  refine BIBase.Entails.trans ?_ (slotPts_any c _ (src_lt q) (srcV I c q))
  rw [bigSep_congr (s := Finset.univ) fun j _ => e j, show (Finset.univ : Finset (Fin 3)) = {0, 1, 2} from by decide,
    bigSep_insert (by decide), bigSep_insert (by decide), bigSep_singleton]
  exact (pointsTo_thirds fullShare _).2

/-- Copies counted by exchange and offset. -/
def cpEquiv : Fin 24 × Fin 3 ≃ Fin 72 where
  toFun x := cp x.1 x.2
  invFun i := (qi i, ⟨i.val % 3, Nat.mod_lt _ (by decide)⟩)
  left_inv x := by
    refine Prod.ext (Fin.ext ?_) (Fin.ext ?_)
    · show (3 * x.1.val + x.2.val) / 3 = x.1.val; omega
    · show (3 * x.1.val + x.2.val) % 3 = x.2.val; omega
  right_inv i := Fin.ext (by show 3 * (i.val / 3) + i.val % 3 = i.val; omega)

theorem srcs_whole : (bigSep Finset.univ fun i : Fin 72 => sendPay I c i) ⊢ bigSep Finset.univ fun q : Fin 24 => slotAny c (4 * q.val) (src_lt q) := by
  rw [bigSep_univ_equiv cpEquiv (fun i : Fin 72 => sendPay I c i), bigSep_univ_prod]
  exact bigSep_mono fun q _ => src_whole I c q

/-- The semaphores of the exchange, every counter at zero. -/
def cells0 : sProp 𝕄 :=
  iprop((bigSep Finset.univ fun i : Fin 72 => semVal (sendCell c i) 0) ∗ bigSep Finset.univ fun i : Fin 72 => semVal (recvCell c i) 0)

theorem mid_elim : midF I c 24 72 72 72
    ⊢ iprop(scr c ∗ cells0 c ∗ semVal (barCell c) 0 ∗ ∃ W, owes (c : Thread nD τ) (0 : CellTallies nD τ sig Unit) W) := by
  have hs : sndF I c 72 72 ⊢ iprop((bigSep Finset.univ fun i : Fin 72 => semVal (sendCell c i) 0) ∗ bigSep Finset.univ fun i : Fin 72 => sendPay I c i) := by
    unfold sndF
    rw [← bigSep_sep']
    exact family_mono fun i => Entails.of_eq (if_pos i.isLt)
  have hr : rcvF I c 72 ⊢ iprop((bigSep Finset.univ fun i : Fin 72 => semVal (recvCell c i) 0) ∗ bigSep Finset.univ fun i : Fin 72 => slotAny c (ln i) (ln_lt i)) := by
    unfold rcvF
    rw [← bigSep_sep']
    exact family_mono fun i => by
      exact (Entails.of_eq (if_pos i.isLt)).trans (sep_mono_right (slotPts_any c _ _ _))
  unfold midF cells0
  rw [show owedCopies c 72 = 0 from owedFrom_end _ _ (Nat.le_refl _)]
  iintro ⟨-, -, Hs, Hr, -, Hb, HO⟩
  ihave Hs := hs $$ Hs
  icases Hs with ⟨Hs0, Hsp⟩
  ihave Hr := hr $$ Hr
  icases Hr with ⟨Hr0, Hrp⟩
  isplitl [Hsp Hrp]
  · iapply (scr_join c)
    isplitl [Hsp]; · iapply (srcs_whole I c) $$ Hsp
    iexact Hrp
  isplitl [Hs0 Hr0]; · isplitl [Hs0] <;> iassumption
  isplitl [Hb] <;> iassumption

end Device

end Cert.KernelIdeal

end
-- ==== Proof.KernelIdeal.Steps.lean ====
/-
  One lemma per kind of statement of the kernel: from the state before it, the state after it.
-/
module

public import proofs.«01_k».proof.Proof.KernelIdeal.State
public import Idealize.ShloMosaic.Lib.WritesUnit

@[expose] public section

set_option maxRecDepth 8000

noncomputable section

namespace Cert.KernelIdeal

open Idealize.ShloMosaic Idealize.ShloMosaic.TcCoe
open Idealize.SL Idealize.SL.RA Idealize.SL.BI Idealize.SL.BI.Laws Idealize.SL.Sem Idealize.SL.ProofMode
open scoped Idealize.SL.BI
open Idealize.SL.BI.BIBase
open Idealize.ShloMosaic.Rounds
open Gen
open Idealize.ShloMosaic.Ring (shares3 pointsTo_thirds)
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- A piece of the kernel's program run on device `c`. -/
def run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

theorem run_bind {α β : Type} {c : Dev nD} {Q : β → sProp 𝕄} {S : sProp 𝕄}
    {p : Prog (TpuEff nD τ sig (Elt F) Λ₀ .tc) α} {k : α → Prog (TpuEff nD τ sig (Elt F) Λ₀ .tc) β}
    (h : S ⊢ run c p (fun a => run c (k a) Q)) : S ⊢ run c (p >>= k) Q := by
  unfold run at *; rw [wp_bind]; exact h

theorem run_pure {β : Type} {c : Dev nD} {Q : β → sProp 𝕄} {S : sProp 𝕄} {a : β} (h : S ⊢ Q a) : S ⊢ run c (pure a : Prog (TpuEff nD τ sig (Elt F) Λ₀ .tc) β) Q := by
  exact h.trans (fupd_intro)

theorem run_end {β : Type} {c : Dev nD} {Q : β → sProp 𝕄} {a : β} : Q a ⊢ run c (pure a : Prog (TpuEff nD τ sig (Elt F) Λ₀ .tc) β) Q :=
  run_pure (BI.Entails.refl _)

/-- A part of the program, then the rest. -/
theorem run_part {α β : Type} {c : Dev nD} {Q : β → sProp 𝕄} {S S' : sProp 𝕄}
    {p : Prog (TpuEff nD τ sig (Elt F) Λ₀ .tc) α} {k : α → Prog (TpuEff nD τ sig (Elt F) Λ₀ .tc) β} {t : α}
    (h₁ : ∀ Φ : α → sProp 𝕄, (S' ⊢ Φ t) → S ⊢ run c p Φ) (h₂ : S' ⊢ run c (k t) Q) : S ⊢ run c (p >>= k) Q :=
  run_bind (h₁ _ h₂)

theorem run_op {α β : Type} {c : Dev nD} {Q : β → sProp 𝕄} {S : sProp 𝕄}
    {e : TpuEff nD τ sig (Elt F) Λ₀ .tc α} {k : α → Prog (TpuEff nD τ sig (Elt F) Λ₀ .tc) β}
    (h : S ⊢ wp frame (wpE (defs₀ (F := F)) 𝒱₀ (c : Thread nD τ) none) Set.univ (.op e k) Q) : S ⊢ run c (Prog.lift e >>= k) Q := by
  exact h

/-- A fact about every device, at one. -/
theorem at_dev {f g : Dev nD → Dev nD} (h : ∀ c, f c = g c) (c : Dev nD) : f c = g c := h c

theorem run_device {β : Type} {c : Dev nD} {Q : β → sProp 𝕄} {S : sProp 𝕄}
    {k : Dev nD → Prog (TpuEff nD τ sig (Elt F) Λ₀ .tc) β}
    (h : S ⊢ run c (k c) Q) : S ⊢ run c (Prog.lift .deviceId >>= k) Q := by
  refine run_op ?_
  rw [wp_deviceId]; exact h

/-! ## Loads of the inputs -/

/-- A member of a separated pair taken out and put back: the first, or one of the rest. -/
theorem peek_here {A R : sProp (MT nD τ sig Unit (Elt F) ℕ UU ℕ)} : iprop(A ∗ R) ⊢ iprop(A ∗ (A -∗ iprop(A ∗ R))) := by
  iintro ⟨HA, HR⟩
  isplitl [HA]; · iexact HA
  iintro HA
  isplitl [HA] <;> iassumption
theorem peek_last {A : sProp (MT nD τ sig Unit (Elt F) ℕ UU ℕ)} : A ⊢ iprop(A ∗ (A -∗ A)) := by
  iintro HA
  isplitl [HA]; · iexact HA
  iintro HA; iexact HA
theorem peek_there {A B R : sProp (MT nD τ sig Unit (Elt F) ℕ UU ℕ)} (h : R ⊢ iprop(A ∗ (A -∗ R))) : iprop(B ∗ R) ⊢ iprop(A ∗ (A -∗ iprop(B ∗ R))) := by
  iintro ⟨HB, HR⟩
  ihave HR := h $$ HR
  icases HR with ⟨HA, Hw⟩
  isplitl [HA]; · iexact HA
  iintro HA
  isplitl [HB]; · iexact HB
  iapply Hw; iexact HA

/-- Reading a rectangle of an owned buffer. -/
theorem load_owns {β : Type} {c : Dev nD} {Q : β → sProp 𝕄} {S : sProp 𝕄} {s : Shape} {e : EltTy} {m : Memref sig .tc .vmem s e}
    {X : s.Idx → Elt F e} {r : LoadRect s} {hl : m.view.LoadsAt r} {k : (r.shape.Idx → Elt F e) → Prog (TpuEff nD τ sig (Elt F) Λ₀ .tc) β}
    (hin : S ⊢ iprop(owns (c : Thread nD τ) m fullShare X ∗ (owns (c : Thread nD τ) m fullShare X -∗ S)))
    (h : S ⊢ run c (k (fun y => X (r.idx y))) Q) :
    S ⊢ run c (Prog.lift (.load m r hl) >>= k) Q := by
  refine run_op (hin.trans ?_)
  unfold run at h
  iintro ⟨Ho, Hw⟩
  unfold owns
  icases Ho with ⟨%f, %hf, Hp⟩
  iapply (wp_load 𝒱₀ (c : Thread nD τ) none Set.univ (hl := hl) (View.setOn_subset_set m.view r.set)) $$ Hp
  iintro Hp
  rw [show m.view.readAt (Elt F) r f = fun y => X (r.idx y) from funext fun y => by rw [View.readAt_apply, hf]]
  iapply h
  iapply Hw
  iexists f
  isplitr; · ipureintro; exact hf
  iexact Hp

section Inputs

variable {β : Type} {c : Dev nD} {Q : β → sProp (MT nD τ sig Unit (Elt F) ℕ UU ℕ)} {R : sProp (MT nD τ sig Unit (Elt F) ℕ UU ℕ)} {I : In F} {M : Mems}

theorem load_m0 {r : LoadRect S64x512} {hl : M.m0.view.LoadsAt r} {k : (r.shape.Idx → Elt F .f32) → Prog (TpuEff nD τ sig (Elt F) Λ₀ .tc) β}
    (h : iprop(R ∗ ins I M c) ⊢ run c (k (fun y => (I.x c) (r.idx y))) Q) :
    iprop(R ∗ ins I M c) ⊢ run c (Prog.lift (.load M.m0 r hl) >>= k) Q := load_owns (peek_there peek_here) h
theorem load_m1 {r : LoadRect S512x1024} {hl : M.m1.view.LoadsAt r} {k : (r.shape.Idx → Elt F .bf16) → Prog (TpuEff nD τ sig (Elt F) Λ₀ .tc) β}
    (h : iprop(R ∗ ins I M c) ⊢ run c (k (fun y => (I.win 0 c) (r.idx y))) Q) :
    iprop(R ∗ ins I M c) ⊢ run c (Prog.lift (.load M.m1 r hl) >>= k) Q := load_owns (peek_there (peek_there peek_here)) h
theorem load_m2 {r : LoadRect S1024x512} {hl : M.m2.view.LoadsAt r} {k : (r.shape.Idx → Elt F .bf16) → Prog (TpuEff nD τ sig (Elt F) Λ₀ .tc) β}
    (h : iprop(R ∗ ins I M c) ⊢ run c (k (fun y => (I.wout 0 c) (r.idx y))) Q) :
    iprop(R ∗ ins I M c) ⊢ run c (Prog.lift (.load M.m2 r hl) >>= k) Q := load_owns (peek_there (peek_there (peek_there peek_here))) h
theorem load_m3 {r : LoadRect S512x1024} {hl : M.m3.view.LoadsAt r} {k : (r.shape.Idx → Elt F .bf16) → Prog (TpuEff nD τ sig (Elt F) Λ₀ .tc) β}
    (h : iprop(R ∗ ins I M c) ⊢ run c (k (fun y => (I.win 1 c) (r.idx y))) Q) :
    iprop(R ∗ ins I M c) ⊢ run c (Prog.lift (.load M.m3 r hl) >>= k) Q := load_owns (peek_there (peek_there (peek_there (peek_there peek_here)))) h
theorem load_m4 {r : LoadRect S1024x512} {hl : M.m4.view.LoadsAt r} {k : (r.shape.Idx → Elt F .bf16) → Prog (TpuEff nD τ sig (Elt F) Λ₀ .tc) β}
    (h : iprop(R ∗ ins I M c) ⊢ run c (k (fun y => (I.wout 1 c) (r.idx y))) Q) :
    iprop(R ∗ ins I M c) ⊢ run c (Prog.lift (.load M.m4 r hl) >>= k) Q := load_owns (peek_there (peek_there (peek_there (peek_there (peek_there peek_here))))) h
theorem load_m5 {r : LoadRect S512x1024} {hl : M.m5.view.LoadsAt r} {k : (r.shape.Idx → Elt F .bf16) → Prog (TpuEff nD τ sig (Elt F) Λ₀ .tc) β}
    (h : iprop(R ∗ ins I M c) ⊢ run c (k (fun y => (I.win 2 c) (r.idx y))) Q) :
    iprop(R ∗ ins I M c) ⊢ run c (Prog.lift (.load M.m5 r hl) >>= k) Q := load_owns (peek_there (peek_there (peek_there (peek_there (peek_there (peek_there peek_here)))))) h
theorem load_m6 {r : LoadRect S1024x512} {hl : M.m6.view.LoadsAt r} {k : (r.shape.Idx → Elt F .bf16) → Prog (TpuEff nD τ sig (Elt F) Λ₀ .tc) β}
    (h : iprop(R ∗ ins I M c) ⊢ run c (k (fun y => (I.wout 2 c) (r.idx y))) Q) :
    iprop(R ∗ ins I M c) ⊢ run c (Prog.lift (.load M.m6 r hl) >>= k) Q := load_owns (peek_there (peek_there (peek_there (peek_there (peek_there (peek_there (peek_there peek_last))))))) h

end Inputs

/-! ## The exchanges -/

section Steps

variable {β : Type} {c : Dev nD} {Q : β → sProp (MT nD τ sig Unit (Elt F) ℕ UU ℕ)} {I : In F} {K : GSem nD τ sig → ℕ} {M : Mems}

/-- A cell waited for in its only round gives its counter back at zero. -/
theorem close (κ : ℕ) (g : GSem nD τ sig) :
    iprop(cellInv ER (Rd I) κ g ∗ atPos ER g (0 + 1) ∅ 0) ⊢ (|={Set.univ}=> semVal g 0 : sProp (MT nD τ sig Unit (Elt F) ℕ UU ℕ)) :=
  Rounds.cell_close ER (Rd I) (Set.mem_univ κ) id (duties_later I g)

/-- Signal number `t` of the barrier. -/
theorem signal_step {t : ℕ} (ht : t < 6) {p : Dev nD} {k : PUnit → Prog (TpuEff nD τ sig (Elt F) Λ₀ .tc) β} (hp : p = peer ⟨t, ht⟩ c)
    (h : St0 I K M c (t + 1) ⊢ run c (k ⟨⟩) Q) :
    St0 I K M c t ⊢ run c (semSignalWord p barS 1#32 >>= k) Q := by
  subst hp
  unfold run at h
  refine run_op (α := PUnit) (e := .semSignal (peer ⟨t, ht⟩ c : Thread nD τ) barS 1) ?_
  have hO : owedCopies c 0 + owedFrom (barOwe c) t
      = (owedCopies c 0 + owedFrom (barOwe c) (t + 1)) + tallyAt (barCell (peer ⟨t, ht⟩ c)) () 1 := by
    rw [show owedFrom (barOwe c) t = owedFrom (barOwe c) (t + 1) + barOwe c ⟨t, ht⟩ from owedFrom_step (barOwe c) ⟨t, ht⟩, add_assoc]
  unfold St0 preF
  iintro ⟨⟨#HR, ⟨HB, H1, H2, H3, H4, H5, ⟨%W, HO⟩⟩, Ho⟩, Hi⟩
  ihave HB := (barF_step c ⟨t, ht⟩) $$ HB
  icases HB with ⟨⟨Ht, Hp⟩, HB⟩
  iapply (Rounds.wp_signal 𝒱₀ ER (Rd I) (c : Thread nD τ) none (dst := (peer ⟨t, ht⟩ c : Thread nD τ)) (sem := barS) (r := 0) (d := ⟨t, ht⟩)
      (κ := K (barCell (peer ⟨t, ht⟩ c)))
      (by rw [duties_bar]; exact Finset.mem_univ _) (amount_bar I (peer ⟨t, ht⟩ c) _) () (owedCopies c 0 + owedFrom (barOwe c) (t + 1)) hO)
    $$ [HO Ht Hp]
  · isplitr; · iapply (recs_bar I K (peer ⟨t, ht⟩ c)) $$ HR
    isplitl [HO]; · iexact HO
    isplitl [Ht]; · iexact Ht
    isplitl [Hp]; · rw [payload_bar]; iexact Hp
    iapply (recs_reached I K (peer ⟨t, ht⟩ c)) $$ HR
  iintro HO
  iapply h
  unfold St0 preF
  isplitr [Hi]
  · isplitr; · iexact HR
    isplitr [Ho]
    · isplitl [HB]; · iexact HB
      isplitl [H1]; · iexact H1
      isplitl [H2]; · iexact H2
      isplitl [H3]; · iexact H3
      isplitl [H4]; · iexact H4
      isplitl [H5]; · iexact H5
      iexists W; iexact HO
    · iexact Ho
  · iexact Hi

/-- The barrier: six signals in, every slot this device may write is its own to write. -/
theorem barrier_step {k : PUnit → Prog (TpuEff nD τ sig (Elt F) Λ₀ .tc) β} (h : St I K M c 0 0 0 0 0 ⊢ run c (k ⟨⟩) Q) :
    St0 I K M c 6 ⊢ run c (semWaitWord barS 6#32 >>= k) Q := by
  refine run_op (α := PUnit) (e := .semWait barS ((6 : ℕ) : ℤ)) ?_
  unfold St0 preF
  rw [owedFrom_end (barOwe c) 6 (Nat.le_refl 6), add_zero]
  iintro ⟨⟨#HR, ⟨-, H1, H2, H3, H4, ⟨Ha, Hc⟩, ⟨%W, HO⟩⟩, Ho⟩, Hi⟩
  iapply (Rounds.wp_wait_rest_token 𝒱₀ ER (Rd I) (c : Thread nD τ) none (κ := K (barCell c))
      (wpE_semWait_eq 𝒱₀ (c : Thread nD τ) none Set.univ) (Set.mem_univ _) () (O := owedCopies c 0) (W := W) (R := 0) (m := 0) (T := ∅)
      (by rw [expect_bar])) $$ [Hc HO Ha]
  · isplitr; · iapply (recs_bar I K c) $$ HR
    isplitl [Hc]; · iexact Hc
    isplitl [HO]; · iexact HO
    isplitr; · iapply ((recs_lev I K).trans (mayWait_bar c)) $$ HR
    iexact Ha
  iintro ⟨HO, Ha, -, Hpay⟩
  ihave Hp := (Entails.of_eq (rest_bar I c)) $$ Hpay
  unfold run at h
  iapply (fupd_wp (E := Set.univ))
  imod (close (I := I) (K (barCell c)) (barCell c)) $$ [Ha] with Hs
  · isplitr; · iapply (recs_bar I K c) $$ HR
    iexact Ha
  imodintro
  iapply h
  unfold St midF
  isplitr [Hi]
  · isplitr; · iexact HR
    isplitr [Ho]
    · isplitl [H1]; · iexact H1
      isplitl [Hp]
      · unfold dstF
        rw [bigSep_congr (s := Finset.univ) fun (i : Fin 72) _ => if_pos (Nat.zero_le i.val)]
        iexact Hp
      isplitl [H2]; · iexact H2
      isplitl [H3]; · iexact H3
      isplitl [H4]; · iexact H4
      isplitl [Hs]; · iexact Hs
      iexists _; iexact HO
    · iexact Ho
  · iexact Hi

/-- A slot just stored. -/
theorem stored_eq (c : Dev nD) (n : ℕ) (h : n < 96) (X : FVec F S1x16x512 .bf16) (f : Buf (Elt F) ((slotV n h).loc (c : Thread nD τ))) :
    ((slotV n h).loc (c : Thread nD τ) ↦[(slotV n h).set]{fullShare} ((slotV n h).write (Elt F) f X Finset.univ) : sProp (MT nD τ sig Unit (Elt F) ℕ UU ℕ))
      ⊢ slotPts c n h fullShare X := by
  unfold slotPts
  refine Entails.of_eq (pointsTo_congr fun i hi => ?_)
  obtain ⟨x, -, rfl⟩ := Finset.mem_map.mp hi
  rw [View.write_emb_of_mem _ _ (Finset.mem_univ _), View.rep_emb]

/-- The dead load of a source slot about to be stored. -/
theorem peek_step {s a b d n m : ℕ} (hs : s < 24) (hm : m = 4 * s) {hb} {hl : (Memref.whole cc0_scratch0).view.LoadsAt (Rect.unit (s := S96x16x512) ![m, 0, 0] S1x16x512.size hb).toLoadRect}
    {k : ((Rect.unit (s := S96x16x512) ![m, 0, 0] S1x16x512.size hb).toLoadRect.shape.Idx → Elt F .bf16) → Prog (TpuEff nD τ sig (Elt F) Λ₀ .tc) β}
    (h : ∀ v, St I K M c s a b d n ⊢ run c (k v) Q) :
    St I K M c s a b d n ⊢ run c (Prog.lift (.load (Memref.whole cc0_scratch0) (Rect.unit (s := S96x16x512) ![m, 0, 0] S1x16x512.size hb).toLoadRect hl) >>= k) Q := by
  subst hm
  unfold run at h
  refine run_op ?_
  unfold St midF
  iintro ⟨⟨HR, ⟨H1, H2, H3, H4, H5, H6, H7⟩, Ho⟩, Hi⟩
  ihave H5 := (srcF_peek I c s a ⟨s, hs⟩ (Nat.le_refl s)) $$ H5
  unfold slotAny
  icases H5 with ⟨⟨%f, Hp⟩, Hw⟩
  iapply (wp_load_rect 𝒱₀ (c : Thread nD τ) none Set.univ (hl := hl) (Finset.Subset.refl _)) $$ Hp
  iintro Hp
  iapply (h _)
  unfold St midF
  isplitr [Hi]
  · isplitl [HR]; · iexact HR
    isplitr [Ho]
    · isplitl [H1]; · iexact H1
      isplitl [H2]; · iexact H2
      isplitl [H3]; · iexact H3
      isplitl [H4]; · iexact H4
      isplitl [Hw Hp]
      · iapply Hw; iexists f; iexact Hp
      isplitl [H6]; · iexact H6
      iexact H7
    · iexact Ho
  · iexact Hi

/-- The store of a source slot. -/
theorem store_step {s a b d n m : ℕ} (hs : s < 24) (ha : a ≤ 3 * s) (hm : m = 4 * s) {hb}
    {w : (Rect.unit (s := S96x16x512) ![m, 0, 0] S1x16x512.size hb).shape.Idx → Elt F .bf16} {hx} {hu}
    (hw : w = srcV I c ⟨s, hs⟩)
    {k : PUnit → Prog (TpuEff nD τ sig (Elt F) Λ₀ .tc) β}
    (h : St I K M c (s + 1) a b d n ⊢ run c (k ⟨⟩) Q) :
    St I K M c s a b d n ⊢ run c (Prog.lift (.store (Memref.whole cc0_scratch0) (Rect.unit (s := S96x16x512) ![m, 0, 0] S1x16x512.size hb) w Finset.univ hx hu) >>= k) Q := by
  subst hm
  subst hw
  unfold run at h
  refine run_op ?_
  unfold St midF
  iintro ⟨⟨HR, ⟨H1, H2, H3, H4, H5, H6, H7⟩, Ho⟩, Hi⟩
  ihave H5 := (srcF_store I c ⟨s, hs⟩ a ha) $$ H5
  unfold slotAny
  icases H5 with ⟨⟨%f, Hp⟩, Hw⟩
  iapply (wp_store 𝒱₀ (c : Thread nD τ) none Set.univ (hx := hx) (hm := hu) (View.setOn_subset_set _ _)) $$ Hp
  iintro Hp
  iapply h
  unfold St midF
  isplitr [Hi]
  · isplitl [HR]; · iexact HR
    isplitr [Ho]
    · isplitl [H1]; · iexact H1
      isplitl [H2]; · iexact H2
      isplitl [H3]; · iexact H3
      isplitl [H4]; · iexact H4
      isplitl [Hw Hp]
      · iapply Hw
        iapply (stored_eq c _ (src_lt ⟨s, hs⟩) (srcV I c ⟨s, hs⟩) f) $$ Hp
      isplitl [H6]; · iexact H6
      iexact H7
    · iexact Ho
  · iexact Hi

/-- A share of a source slot pays the own send cell. -/
theorem send_pays (c : Dev nD) (i : Fin 72) :
    ((slotM (4 * (qi i).val) (src_lt (qi i))).view.loc (c : Thread nD τ) ↦[(slotM (4 * (qi i).val) (src_lt (qi i))).view.set]{shares3 fullShare ⟨i.val % 3, Nat.mod_lt _ (by decide)⟩}
        ((slotV (4 * (qi i).val) (src_lt (qi i))).rep (srcV I c (qi i))) : sProp (MT nD τ sig Unit (Elt F) ℕ UU ℕ))
      ⊢ (Rd I).payload (sendCell c i) 0 0 := by
  rw [payload_send, slotM_set]; unfold sendPay slotPts; exact BI.Entails.refl _

/-- What lands pays the peer's recv cell. -/
theorem recv_pays (c : Dev nD) (i : Fin 72) (fd : Buf (Elt F) ((slotM (ln i) (ln_lt i)).view.loc (px c i : Thread nD τ))) :
    ((slotM (ln i) (ln_lt i)).view.loc (px c i : Thread nD τ) ↦[(slotM (ln i) (ln_lt i)).view.set]{fullShare}
        ((slotM (ln i) (ln_lt i)).view.write (Elt F) fd ((slotM (4 * (qi i).val) (src_lt (qi i))).view.read (Elt F)
          ((slotV (4 * (qi i).val) (src_lt (qi i))).rep (srcV I c (qi i)))) Finset.univ) : sProp (MT nD τ sig Unit (Elt F) ℕ UU ℕ))
      ⊢ (Rd I).payload (recvCell (px c i) i) 0 0 := by
  have e : landV I (px c i) i = srcV I c (qi i) := by unfold landV; rw [px_px]
  rw [payload_recv]; unfold recvPay; rw [e]
  exact landing_eq c (px c i) _ _ (src_lt (qi i)) (ln_lt i) (srcV I c (qi i)) fd

/-- A copy to a peer. -/
theorem send_step {s a b d n m m' q j : ℕ} (ha : a < 72) (hs : a / 3 < s) (hd : d ≤ a) (hm : m = 4 * (qi ⟨a, ha⟩).val) (hm' : m' = ln ⟨a, ha⟩)
    (hq : q = a / 3) (hj : j = a % 3) {p : Dev nD} (hp : p = px c ⟨a, ha⟩) {hb hb' h9 h10 hsc h1 h2 h3}
    {k : PUnit → Prog (TpuEff nD τ sig (Elt F) Λ₀ .tc) β}
    (h : St I K M c s (a + 1) b d n ⊢ run c (k ⟨⟩) Q) :
    St I K M c s a b d n ⊢ run c (Prog.lift (.enqueueDma
        (((Memref.whole cc0_scratch0).slice (Rect.unit (s := S96x16x512) ![m, 0, 0] S1x16x512.size hb) (fun _ => rfl)).squeeze S16x512 squeezes_S1x16x512_S16x512)
        (.remote (Dev.tc p)
          (((Memref.whole cc0_scratch0).slice (Rect.unit (s := S96x16x512) ![m', 0, 0] S1x16x512.size hb') (fun _ => rfl)).squeeze S16x512 squeezes_S1x16x512_S16x512)
          (.dma ((cc0_scratch1.slice (Rect.unit (s := S24x3) ![q, j] S1x1.size h9)).squeeze S_ squeezes_S1x1_S_).sem) hsc)
        (.dma ((cc0_scratch2.slice (Rect.unit (s := S24x3) ![q, j] S1x1.size h10)).squeeze S_ squeezes_S1x1_S_).sem) h1 h2 h3) >>= k) Q := by
  subst hm; subst hm'; subst hp
  generalize e9 : ((cc0_scratch1.slice (Rect.unit (s := S24x3) ![q, j] S1x1.size h9)).squeeze S_ squeezes_S1x1_S_).sem = sS at h3
  generalize e10 : ((cc0_scratch2.slice (Rect.unit (s := S24x3) ![q, j] S1x1.size h10)).squeeze S_ squeezes_S1x1_S_).sem = sR at h3
  rw [sendSem_eq ⟨a, ha⟩ q j hq hj h9] at e9
  rw [recvSem_eq ⟨a, ha⟩ q j hq hj h10] at e10
  subst e9; subst e10
  unfold run at h
  refine run_op ?_
  have hO : owedCopies c a = owedCopies c (a + 1) + tallyAt (recvCell (px c ⟨a, ha⟩) ⟨a, ha⟩) () N := owedFrom_step (copyOwe c) ⟨a, ha⟩
  unfold St midF
  iintro ⟨⟨#HR, ⟨H1, H2, H3, H4, H5, H6, ⟨%W, HO⟩⟩, Ho⟩, Hi⟩
  ihave H1 := (tokF_step c ⟨a, ha⟩) $$ H1
  icases H1 with ⟨⟨HtS, HtR⟩, H1⟩
  ihave H2 := (dstF_step c ⟨a, ha⟩) $$ H2
  icases H2 with ⟨⟨Hd, HrR⟩, H2⟩
  ihave H3 := (sndF_start I c ⟨a, ha⟩ d hd) $$ H3
  icases H3 with ⟨HrS, H3⟩
  ihave H5 := (srcF_take I c s ⟨a, ha⟩ hs) $$ H5
  icases H5 with ⟨Hsrc, H5⟩
  unfold slotAny
  icases Hd with ⟨%fd, Hd⟩
  iapply (Rounds.wp_send_pointsTo 𝒱₀ ER (Rd I) (c : Thread nD τ) none (c' := (px c ⟨a, ha⟩ : Thread nD τ))
      (src := slotM (4 * (qi ⟨a, ha⟩).val) (src_lt (qi ⟨a, ha⟩))) (dst := slotM (ln ⟨a, ha⟩) (ln_lt ⟨a, ha⟩))
      (sS := .dma (sendSem ⟨a, ha⟩)) (sem := .dma (recvSem ⟨a, ha⟩)) (q := shares3 fullShare ⟨a % 3, Nat.mod_lt _ (by decide)⟩)
      (fs := (slotV (4 * (qi ⟨a, ha⟩).val) (src_lt (qi ⟨a, ha⟩))).rep (srcV I c (qi ⟨a, ha⟩)))
      (κ₁ := K (sendCell c ⟨a, ha⟩)) (κ₂ := K (recvCell (px c ⟨a, ha⟩) ⟨a, ha⟩))
      (r₁ := 0) (r₂ := 0) (d₁ := 0) (d₂ := 0) (fd := fd)
      (by rw [duties_send]; exact Finset.mem_singleton_self _) (by rw [duties_recv]; exact Finset.mem_singleton_self _)
      () () N rfl (amount_send I c ⟨a, ha⟩ 0) (amount_recv I (px c ⟨a, ha⟩) ⟨a, ha⟩ 0) (owedCopies c (a + 1)) hO (W := W)
      (send_pays c ⟨a, ha⟩) (recv_pays c ⟨a, ha⟩ fd)) $$ [Hsrc Hd HO HtS HrS HtR HrR]
  · isplitr; · iapply (recs_send I K c ⟨a, ha⟩) $$ HR
    isplitr; · iapply (recs_recv I K (px c ⟨a, ha⟩) ⟨a, ha⟩) $$ HR
    isplitl [Hsrc]; · rw [slotM_set]; unfold sendPay slotPts; iexact Hsrc
    isplitl [Hd]; · rw [slotM_set]; iexact Hd
    isplitl [HO]; · iexact HO
    isplitl [HtS]; · iexact HtS
    isplitl [HrS]; · iexact HrS
    isplitl [HtR]; · iexact HtR
    iexact HrR
  iintro ⟨HcS, HO⟩
  iapply h
  unfold St midF
  isplitr [Hi]
  · isplitr; · iexact HR
    isplitr [Ho]
    · isplitl [H1]; · iexact H1
      isplitl [H2]; · iexact H2
      isplitl [H3 HcS]; · iapply H3; iexact HcS
      isplitl [H4]; · iexact H4
      isplitl [H5]; · iexact H5
      isplitl [H6]; · iexact H6
      iexists W; iexact HO
    · iexact Ho
  · iexact Hi

/-- The wait for a landing. -/
theorem recv_step {s a b d n q j : ℕ} (hb : b < 72) (hab : b < a) (hq : q = b / 3) (hj : j = b % 3) {h10}
    {src dst : Memref sig .tc .vmem S16x512 .bf16} {h1 h2} (hN : dst.view.dmaCredit = N)
    {k : PUnit → Prog (TpuEff nD τ sig (Elt F) Λ₀ .tc) β}
    (h : St I K M c s a (b + 1) d n ⊢ run c (k ⟨⟩) Q) :
    St I K M c s a b d n ⊢ run c (Prog.lift (.waitDma2
        ((cc0_scratch2.slice (Rect.unit (s := S24x3) ![q, j] S1x1.size h10)).squeeze S_ squeezes_S1x1_S_).sem src dst h1 h2) >>= k) Q := by
  rw [recvSem_eq ⟨b, hb⟩ q j hq hj h10]
  unfold run at h
  refine run_op ?_
  unfold St midF
  iintro ⟨⟨#HR, ⟨H1, H2, H3, H4, H5, H6, ⟨%W, HO⟩⟩, Ho⟩, Hi⟩
  ihave H4 := (rcvF_wait I c ⟨b, hb⟩) $$ H4
  icases H4 with ⟨⟨Ha, Hc⟩, H4⟩
  iapply (Rounds.wp_wait_rest_token 𝒱₀ ER (Rd I) (c : Thread nD τ) none (κ := K (recvCell c ⟨b, hb⟩)) (k' := dst.view.dmaCredit)
      (wpE_waitDma2_eq 𝒱₀ (c : Thread nD τ) none Set.univ) (Set.mem_univ _) () (O := owedCopies c a) (W := W) (R := 0) (m := 0) (T := ∅)
      (by rw [expect_recv, hN, Nat.zero_add])) $$ [Hc HO Ha]
  · isplitr; · iapply (recs_recv I K c ⟨b, hb⟩) $$ HR
    isplitl [Hc]; · rw [hN]; iexact Hc
    isplitl [HO]; · iexact HO
    isplitr; · iapply ((recs_lev I K).trans (mayWait_recv c ⟨b, hb⟩ a hab)) $$ HR
    iexact Ha
  iintro ⟨HO, Ha, -, Hpay⟩
  ihave Hp := (Entails.of_eq (rest_recv I c ⟨b, hb⟩)) $$ Hpay
  iapply (fupd_wp (E := Set.univ))
  imod (close (I := I) (K (recvCell c ⟨b, hb⟩)) (recvCell c ⟨b, hb⟩)) $$ [Ha] with Hs
  · isplitr; · iapply (recs_recv I K c ⟨b, hb⟩) $$ HR
    iexact Ha
  imodintro
  iapply h
  unfold St midF
  isplitr [Hi]
  · isplitr; · iexact HR
    isplitr [Ho]
    · isplitl [H1]; · iexact H1
      isplitl [H2]; · iexact H2
      isplitl [H3]; · iexact H3
      isplitl [H4 Hs Hp]
      · iapply H4
        isplitl [Hs] <;> iassumption
      isplitl [H5]; · iexact H5
      isplitl [H6]; · iexact H6
      iexists _; iexact HO
    · iexact Ho
  · iexact Hi

/-- The wait for an own copy. -/
theorem sent_step {s a b d n q j : ℕ} (hd : d < 72) (had : d < a) (hq : q = d / 3) (hj : j = d % 3) {h9}
    {src dst : Memref sig .tc .vmem S16x512 .bf16} {h1 h2} (hN : dst.view.dmaCredit = N)
    {k : PUnit → Prog (TpuEff nD τ sig (Elt F) Λ₀ .tc) β}
    (h : St I K M c s a b (d + 1) n ⊢ run c (k ⟨⟩) Q) :
    St I K M c s a b d n ⊢ run c (Prog.lift (.waitDma2
        ((cc0_scratch1.slice (Rect.unit (s := S24x3) ![q, j] S1x1.size h9)).squeeze S_ squeezes_S1x1_S_).sem src dst h1 h2) >>= k) Q := by
  rw [sendSem_eq ⟨d, hd⟩ q j hq hj h9]
  unfold run at h
  refine run_op ?_
  unfold St midF
  iintro ⟨⟨#HR, ⟨H1, H2, H3, H4, H5, H6, ⟨%W, HO⟩⟩, Ho⟩, Hi⟩
  ihave H3 := (sndF_wait I c a ⟨d, hd⟩ had) $$ H3
  icases H3 with ⟨⟨Ha, Hc⟩, H3⟩
  iapply (Rounds.wp_wait_rest_token 𝒱₀ ER (Rd I) (c : Thread nD τ) none (κ := K (sendCell c ⟨d, hd⟩)) (k' := dst.view.dmaCredit)
      (wpE_waitDma2_eq 𝒱₀ (c : Thread nD τ) none Set.univ) (Set.mem_univ _) () (O := owedCopies c a) (W := W) (R := 0) (m := 0) (T := ∅)
      (by rw [expect_send, hN, Nat.zero_add])) $$ [Hc HO Ha]
  · isplitr; · iapply (recs_send I K c ⟨d, hd⟩) $$ HR
    isplitl [Hc]; · rw [hN]; iexact Hc
    isplitl [HO]; · iexact HO
    isplitr; · iapply ((recs_lev I K).trans (mayWait_send c ⟨d, hd⟩ a)) $$ HR
    iexact Ha
  iintro ⟨HO, Ha, -, Hpay⟩
  ihave Hp := (Entails.of_eq (rest_send I c ⟨d, hd⟩)) $$ Hpay
  iapply (fupd_wp (E := Set.univ))
  imod (close (I := I) (K (sendCell c ⟨d, hd⟩)) (sendCell c ⟨d, hd⟩)) $$ [Ha] with Hs
  · isplitr; · iapply (recs_send I K c ⟨d, hd⟩) $$ HR
    iexact Ha
  imodintro
  iapply h
  unfold St midF
  isplitr [Hi]
  · isplitr; · iexact HR
    isplitr [Ho]
    · isplitl [H1]; · iexact H1
      isplitl [H2]; · iexact H2
      isplitl [H3 Hs Hp]
      · iapply H3
        isplitl [Hs] <;> iassumption
      isplitl [H4]; · iexact H4
      isplitl [H5]; · iexact H5
      isplitl [H6]; · iexact H6
      iexists _; iexact HO
    · iexact Ho
  · iexact Hi

/-- The load of what landed. -/
theorem land_step {s a b d n m : ℕ} (hi : b - 1 < 72) (hib : b - 1 < b) (hm : m = ln ⟨b - 1, hi⟩) {hb}
    {hl : (Memref.whole cc0_scratch0).view.LoadsAt (Rect.unit (s := S96x16x512) ![m, 0, 0] S1x16x512.size hb).toLoadRect}
    {k : ((Rect.unit (s := S96x16x512) ![m, 0, 0] S1x16x512.size hb).toLoadRect.shape.Idx → Elt F .bf16) → Prog (TpuEff nD τ sig (Elt F) Λ₀ .tc) β}
    (h : St I K M c s a b d n ⊢ run c (k (landV I c ⟨b - 1, hi⟩)) Q) :
    St I K M c s a b d n ⊢ run c (Prog.lift (.load (Memref.whole cc0_scratch0) (Rect.unit (s := S96x16x512) ![m, 0, 0] S1x16x512.size hb).toLoadRect hl) >>= k) Q := by
  subst hm
  unfold run at h
  refine run_op ?_
  unfold St midF
  iintro ⟨⟨HR, ⟨H1, H2, H3, H4, H5, H6, H7⟩, Ho⟩, Hi⟩
  ihave H4 := (rcvF_read I c b ⟨b - 1, hi⟩ hib) $$ H4
  icases H4 with ⟨Hp, Hw⟩
  unfold recvPay slotPts
  iapply (wp_load_rect 𝒱₀ (c : Thread nD τ) none Set.univ (hl := hl) (Finset.Subset.refl _)) $$ Hp
  iintro Hp
  rw [View.read_rep]
  iapply h
  unfold St midF
  isplitr [Hi]
  · isplitl [HR]; · iexact HR
    isplitr [Ho]
    · isplitl [H1]; · iexact H1
      isplitl [H2]; · iexact H2
      isplitl [H3]; · iexact H3
      isplitl [Hw Hp]
      · iapply Hw; iexact Hp
      isplitl [H5]; · iexact H5
      isplitl [H6]; · iexact H6
      iexact H7
    · iexact Ho
  · iexact Hi

/-- The dead load of a row quarter of the result about to be stored. -/
theorem outPeek_step {s a b d n : ℕ} {r : Rect S64x512} {hl : M.m7.view.LoadsAt r.toLoadRect}
    {k : (r.toLoadRect.shape.Idx → Elt F .f32) → Prog (TpuEff nD τ sig (Elt F) Λ₀ .tc) β}
    (h : ∀ v, St I K M c s a b d n ⊢ run c (k v) Q) :
    St I K M c s a b d n ⊢ run c (Prog.lift (.load M.m7 r.toLoadRect hl) >>= k) Q := by
  unfold run at h
  refine run_op ?_
  unfold St outF
  iintro ⟨⟨HR, Hm, ⟨%X, %hX, Ho⟩⟩, Hi⟩
  unfold owns
  icases Ho with ⟨%f, %hf, Hp⟩
  iapply (wp_load 𝒱₀ (c : Thread nD τ) none Set.univ (hl := hl) (View.setOn_subset_set _ _)) $$ Hp
  iintro Hp
  iapply (h _)
  unfold St outF
  isplitr [Hi]
  · isplitl [HR]; · iexact HR
    isplitl [Hm]; · iexact Hm
    iexists X
    isplitr; · ipureintro; exact hX
    unfold owns
    iexists f
    isplitr; · ipureintro; exact hf
    iexact Hp
  · iexact Hi

/-- The store of a row quarter of the result. -/
theorem out_step {s a b d n o : ℕ} (hn : n < 4) (ho : o = 16 * n) {hb}
    {w : (Rect.unit (s := S64x512) ![o, 0] S16x512.size hb).shape.Idx → Elt F .f32} {hx} {hu} (hw : w = outv I c ⟨n, hn⟩)
    {k : PUnit → Prog (TpuEff nD τ sig (Elt F) Λ₀ .tc) β}
    (h : St I K M c s a b d (n + 1) ⊢ run c (k ⟨⟩) Q) :
    St I K M c s a b d n ⊢ run c (Prog.lift (.store M.m7 (Rect.unit (s := S64x512) ![o, 0] S16x512.size hb) w Finset.univ hx hu) >>= k) Q := by
  subst ho; subst hw
  unfold run at h
  refine run_op ?_
  unfold St outF
  iintro ⟨⟨HR, Hm, ⟨%X, %hX, Ho⟩⟩, Hi⟩
  unfold owns
  icases Ho with ⟨%f, %hf, Hp⟩
  iapply (wp_store 𝒱₀ (c : Thread nD τ) none Set.univ (hx := hx) (hm := hu) ((View.setOn_subset_set _ _).trans (View.set_slice_subset _ _))) $$ Hp
  iintro Hp
  iapply h
  unfold St outF
  isplitr [Hi]
  · isplitl [HR]; · iexact HR
    isplitl [Hm]; · iexact Hm
    iexists (M.m7.view.read (Elt F) ((M.m7.access (Rect.unit (s := S64x512) ![16 * n, 0] S16x512.size hb)).write (Elt F) f (outv I c ⟨n, hn⟩) Finset.univ))
    isplitr
    · ipureintro
      intro i hi
      by_cases hlt : (i (0 : Fin 2)).val < 16 * n
      · refine (View.read_writes_cons_rows_of_not_mem M.m7.view f hb (outv I c ⟨n, hn⟩) [] i rfl rfl (Or.inl hlt)).trans ?_
        show M.m7.view.read (Elt F) f i = _
        rw [hf]; exact hX i hlt
      · have hdiv : (i (0 : Fin 2)).val / 16 = n := by omega
        refine (View.read_writes_cons_rows_of_mem M.m7.view f hb (outv I c ⟨n, hn⟩) [] i (rowIdx i) rfl
          (by show (i (0 : Fin 2)).val = 16 * n + (i (0 : Fin 2)).val % 16; omega) rfl).trans ?_
        unfold outX
        congr 1
        exact Fin.ext hdiv.symm
    unfold owns
    iexists _
    isplitr; · ipureintro; rfl
    iexact Hp
  · iexact Hi

end Steps

end Cert.KernelIdeal

end
-- ==== Proof.KernelIdeal.Body.lean ====
/-
  The kernel's body, statement by statement.
-/
module

public import proofs.«01_k».proof.Proof.KernelIdeal.Steps

@[expose] public section

set_option maxRecDepth 8000

noncomputable section

namespace Cert.KernelIdeal

open Idealize.ShloMosaic Idealize.ShloMosaic.TcCoe
open Idealize.SL Idealize.SL.RA Idealize.SL.BI Idealize.SL.BI.Laws Idealize.SL.Sem Idealize.SL.ProofMode
open scoped Idealize.SL.BI
open Idealize.SL.BI.BIBase
open Idealize.ShloMosaic.Rounds
open Gen
open Idealize.ShloMosaic.Ring (shares3 pointsTo_thirds)
open Idealize.ShloMosaic.Pipeline (Dat Cfg Window BodyObligation cellOf)

variable {F : FTy → Type} [FloatOps F]

local notation "𝕄" => MT nD τ sig Unit (Elt F) ℕ UU ℕ

set_option maxHeartbeats 20000000 in
/-- One device's whole run, from the state after the launch to the state in which every copy
has landed and the four pieces of the output are written. -/
theorem body_run (I : In F) (K : GSem nD τ sig → ℕ) (M : Mems) (c : Dev nD) (h0 h1 h2 h3 h4 h5 h6 h7) :
    St0 I K M c 0 ⊢ run c (cc0_body M.m0 h0 M.m1 h1 M.m2 h2 M.m3 h3 M.m4 h4 M.m5 h5 M.m6 h6 M.m7 h7 (Memref.whole cc0_scratch0) (Memref.isWhole_whole _) cc0_scratch1 cc0_scratch2)
      (fun _ => St I K M c 24 72 72 72 4) := by
  rw [cc0_body_eq_skeleton, cc0_body_skel]
  repeat (first
    | with_reducible refine run_device ?_
    | with_reducible refine load_m0 ?_
    | with_reducible refine load_m1 ?_
    | with_reducible refine load_m2 ?_
    | with_reducible refine load_m3 ?_
    | with_reducible refine load_m4 ?_
    | with_reducible refine load_m5 ?_
    | with_reducible refine load_m6 ?_
    | with_reducible refine signal_step (by decide) (by generalize c = e; revert e; decide +kernel) ?_
    | with_reducible refine barrier_step ?_
    | with_reducible refine peek_step (by decide) (by with_unfolding_all rfl) fun _ => ?_
    | with_reducible refine store_step (by decide) (by decide) (by with_unfolding_all rfl) (by with_unfolding_all rfl) ?_
    | with_reducible refine send_step (by decide) (by decide) (by decide) (by with_unfolding_all rfl) (by with_unfolding_all rfl) (by with_unfolding_all rfl) (by with_unfolding_all rfl) (by generalize c = e; revert e; decide +kernel) ?_
    | with_reducible refine recv_step (by decide) (by decide) (by with_unfolding_all rfl) (by with_unfolding_all rfl) (by with_unfolding_all rfl) ?_
    | with_reducible refine land_step (by decide) (by decide) (by with_unfolding_all rfl) ?_
    | with_reducible refine sent_step (by decide) (by decide) (by with_unfolding_all rfl) (by with_unfolding_all rfl) (by with_unfolding_all rfl) ?_
    | with_reducible refine outPeek_step fun _ => ?_
    | with_reducible refine out_step (by decide) (by with_unfolding_all rfl) (by with_unfolding_all rfl) ?_
    | with_reducible exact run_pure ‹_›
    | with_reducible exact run_end
    | (with_reducible apply (newGoals := .nonDependentOnly) run_part
       intro Φ hΦ
       first
        | rw [k0_part1_eq_skeleton, k0_part1_skel] | rw [k0_part2_eq_skeleton, k0_part2_skel] | rw [k0_part3_eq_skeleton, k0_part3_skel]
        | rw [k0_part4_eq_skeleton, k0_part4_skel] | rw [k0_part5_eq_skeleton, k0_part5_skel] | rw [k0_part6_eq_skeleton, k0_part6_skel]
        | rw [k0_part7_eq_skeleton, k0_part7_skel] | rw [k0_part8_eq_skeleton, k0_part8_skel] | rw [k0_part9_eq_skeleton, k0_part9_skel]
        | rw [k0_part10_eq_skeleton, k0_part10_skel] | rw [k0_part11_eq_skeleton, k0_part11_skel] | rw [k0_part12_eq_skeleton, k0_part12_skel]
        | rw [k0_part13_eq_skeleton, k0_part13_skel] | rw [k0_part14_eq_skeleton, k0_part14_skel] | rw [k0_part15_eq_skeleton, k0_part15_skel]
        | rw [k0_part16_eq_skeleton, k0_part16_skel] | rw [k0_part17_eq_skeleton, k0_part17_skel] | rw [k0_part18_eq_skeleton, k0_part18_skel]
        | rw [k0_part19_eq_skeleton, k0_part19_skel] | rw [k0_part20_eq_skeleton, k0_part20_skel] | rw [k0_part21_eq_skeleton, k0_part21_skel]
        | rw [k0_part22_eq_skeleton, k0_part22_skel] | rw [k0_part23_eq_skeleton, k0_part23_skel] | rw [k0_part24_eq_skeleton, k0_part24_skel]
        | rw [k0_part25_eq_skeleton, k0_part25_skel] | rw [k0_part26_eq_skeleton, k0_part26_skel] | rw [k0_part27_eq_skeleton, k0_part27_skel]
        | rw [k0_part28_eq_skeleton, k0_part28_skel] | rw [k0_part29_eq_skeleton, k0_part29_skel] | rw [k0_part30_eq_skeleton, k0_part30_skel]
        | rw [k0_part31_eq_skeleton, k0_part31_skel] | rw [k0_part32_eq_skeleton, k0_part32_skel] | rw [k0_part33_eq_skeleton, k0_part33_skel]
        | rw [k0_part34_eq_skeleton, k0_part34_skel] | rw [k0_part35_eq_skeleton, k0_part35_skel] | rw [k0_part36_eq_skeleton, k0_part36_skel]
        | rw [k0_part37_eq_skeleton, k0_part37_skel] | rw [k0_part38_eq_skeleton, k0_part38_skel] | rw [k0_part39_eq_skeleton, k0_part39_skel]
        | rw [k0_part40_eq_skeleton, k0_part40_skel] | rw [k0_part41_eq_skeleton, k0_part41_skel] | rw [k0_part42_eq_skeleton, k0_part42_skel]
        | rw [k0_part43_eq_skeleton, k0_part43_skel] | rw [k0_part44_eq_skeleton, k0_part44_skel] | rw [k0_part45_eq_skeleton, k0_part45_skel]
        | rw [k0_part46_eq_skeleton, k0_part46_skel] | rw [k0_part47_eq_skeleton, k0_part47_skel] | rw [k0_part48_eq_skeleton, k0_part48_skel]
        | rw [k0_part49_eq_skeleton, k0_part49_skel] | rw [k0_part50_eq_skeleton, k0_part50_skel] | rw [k0_part51_eq_skeleton, k0_part51_skel]
        | rw [k0_part52_eq_skeleton, k0_part52_skel] | rw [k0_part53_eq_skeleton, k0_part53_skel] | rw [k0_part54_eq_skeleton, k0_part54_skel]
        | rw [k0_part55_eq_skeleton, k0_part55_skel] | rw [k0_part56_eq_skeleton, k0_part56_skel] | rw [k0_part57_eq_skeleton, k0_part57_skel]
        | rw [k0_part58_eq_skeleton, k0_part58_skel] | rw [k0_part59_eq_skeleton, k0_part59_skel] | rw [k0_part60_eq_skeleton, k0_part60_skel]
        | rw [k0_part61_eq_skeleton, k0_part61_skel] | rw [k0_part62_eq_skeleton, k0_part62_skel] | rw [k0_part63_eq_skeleton, k0_part63_skel]
        | rw [k0_part64_eq_skeleton, k0_part64_skel] | rw [k0_part65_eq_skeleton, k0_part65_skel] | rw [k0_part66_eq_skeleton, k0_part66_skel]
        | rw [k0_part67_eq_skeleton, k0_part67_skel] | rw [k0_part68_eq_skeleton, k0_part68_skel] | rw [k0_part69_eq_skeleton, k0_part69_skel]
        | rw [k0_part70_eq_skeleton, k0_part70_skel] | rw [k0_part71_eq_skeleton, k0_part71_skel] | rw [k0_part72_eq_skeleton, k0_part72_skel]
        | rw [k0_part73_eq_skeleton, k0_part73_skel] | rw [k0_part74_eq_skeleton, k0_part74_skel] | rw [k0_part75_eq_skeleton, k0_part75_skel]
        | rw [k0_part76_eq_skeleton, k0_part76_skel] | rw [k0_part77_eq_skeleton, k0_part77_skel] | rw [k0_part78_eq_skeleton, k0_part78_skel]
        | rw [k0_part79_eq_skeleton, k0_part79_skel] | rw [k0_part80_eq_skeleton, k0_part80_skel] | rw [k0_part81_eq_skeleton, k0_part81_skel]
        | rw [k0_part82_eq_skeleton, k0_part82_skel] | rw [k0_part83_eq_skeleton, k0_part83_skel] | rw [k0_part84_eq_skeleton, k0_part84_skel]
        | rw [k0_part85_eq_skeleton, k0_part85_skel] | rw [k0_part86_eq_skeleton, k0_part86_skel] | rw [k0_part87_eq_skeleton, k0_part87_skel]
        | rw [k0_part88_eq_skeleton, k0_part88_skel] | rw [k0_part89_eq_skeleton, k0_part89_skel] | rw [k0_part90_eq_skeleton, k0_part90_skel]
        | rw [k0_part91_eq_skeleton, k0_part91_skel] | rw [k0_part92_eq_skeleton, k0_part92_skel] | rw [k0_part93_eq_skeleton, k0_part93_skel]))
  refine run_pure (c := c) ?_
  exact BI.Entails.refl _

end Cert.KernelIdeal

end
-- ==== Proof.KernelIdeal.Region.lean ====
/-
  The pallas_call as a region of the program: what its windows hold, what enters and leaves its one point.

  The seven argument arrays arrive through windows that are whole arrays; the eighth window is the result. The host
  copies `x` into the result's array before the call (the two are one buffer for the compiler), and the call writes it over.
-/
module

public import proofs.«01_k».proof.Proof.KernelIdeal.Slots
public import proofs.«01_k».proof.Proof.KernelIdeal.Body
public import proofs.«01_k».proof.Proof.Gen.KernelIdeal.Frame
public import Idealize.ShloMosaic.Lib.Pipeline.ValueKit.Geometry

@[expose] public section

set_option maxRecDepth 8000

noncomputable section

namespace Cert.KernelIdeal

open Idealize.ShloMosaic Idealize.ShloMosaic.TcCoe
open Idealize.SL Idealize.SL.RA Idealize.SL.BI Idealize.SL.BI.Laws Idealize.SL.Sem Idealize.SL.ProofMode
open scoped Idealize.SL.BI
open Idealize.SL.BI.BIBase
open Idealize.ShloMosaic.Rounds
open Gen
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The arrays -/

/-- The arrays of all devices, as the memory holds them at launch. -/
def inp : In F where
  x c := m ((c : Thread nD τ).loc main_arg0)
  win k c := match k with
    | 0 => m ((c : Thread nD τ).loc main_arg1)
    | 1 => m ((c : Thread nD τ).loc main_arg2)
    | 2 => m ((c : Thread nD τ).loc main_arg3)
  wout k c := match k with
    | 0 => m ((c : Thread nD τ).loc main_arg4)
    | 1 => m ((c : Thread nD τ).loc main_arg5)
    | 2 => m ((c : Thread nD τ).loc main_arg6)

abbrev V₀ (c : Dev nD) : Valuation τ sig (Elt F) := fun b => m (c, b)
abbrev V₁ (c : Dev nD) : Valuation τ sig (Elt F) := StableHlo.after hostOps0 (V₀ m c)
abbrev V₂ (c : Dev nD) : Valuation τ sig (Elt F) := Function.update (V₁ m c) (Proc.devRef .tc main_v1) (outX (inp m) c)

/-! ## The proof data -/

/-- What the call's invariant starts from besides the scratch buffer: the records and the device's share of the protocol. -/
def Xk (c : Dev nD) : sProp 𝕄 := iprop((∃ K, recs (inp m) K) ∗ held0 c)

def dat (c : Dev nD) : Dat τ (Elt F) Unit ℕ UU ℕ cfg0 c where
  A w := V m c (Pipeline.arrRef spec0 w)
  after w _ := match w with
    | ⟨0, _⟩ => (inp m).x c
    | ⟨1, _⟩ => (inp m).win 0 c
    | ⟨2, _⟩ => (inp m).wout 0 c
    | ⟨3, _⟩ => (inp m).win 1 c
    | ⟨4, _⟩ => (inp m).wout 1 c
    | ⟨5, _⟩ => (inp m).win 2 c
    | ⟨6, _⟩ => (inp m).wout 2 c
    | ⟨7, _⟩ => outX (inp m) c
  Φ t := if t.val = 0 then iprop(Xk m c ∗ scr c ∗ ∃ r, prngReg c r)
    else iprop(cells0 c ∗ semVal (barCell c) 0 ∗ scr c ∗ ∃ r, prngReg c r)
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

/-! ## What the windows hold -/

/-- Every window is its whole array: an element of its block has the same coordinates in the array. -/
theorem whole_index : ∀ (w : Fin 8) (a : Fin (cfg0.win w).shape.rank), (cfg0.win w).index t0_0 a = 0 := by decide +kernel
theorem whole_val (w : Fin 8) (y : ((cfg0.win w).rect t0_0).shape.Idx) (a : Fin (cfg0.win w).shape.rank) :
    (((cfg0.win w).rect t0_0).emb y a).val = (y a).val :=
  Window.rect_emb_val_of_index_zero (cfg0.win w) t0_0 a (whole_index w a) y

section Before

variable (c : Dev nD)

theorem before_0 (d) : (dat m c).before 0 t0_0 d = (inp m).x c :=
  ((dat m c).before_fetched 0 _ (fetch0_0 _) d).trans (funext fun y => (congrFun (V_main_arg0 m c) _).trans
    (congrArg (m ((c : Thread nD τ).loc main_arg0)) (funext fun a => Fin.ext (whole_val 0 _ a))))
theorem before_1 (d) : (dat m c).before 1 t0_0 d = (inp m).win 0 c :=
  ((dat m c).before_fetched 1 _ (fetch0_1 _) d).trans (funext fun y => (congrFun (V_main_arg1 m c) _).trans
    (congrArg (m ((c : Thread nD τ).loc main_arg1)) (funext fun a => Fin.ext (whole_val 1 _ a))))
theorem before_2 (d) : (dat m c).before 2 t0_0 d = (inp m).wout 0 c :=
  ((dat m c).before_fetched 2 _ (fetch0_2 _) d).trans (funext fun y => (congrFun (V_main_arg4 m c) _).trans
    (congrArg (m ((c : Thread nD τ).loc main_arg4)) (funext fun a => Fin.ext (whole_val 2 _ a))))
theorem before_3 (d) : (dat m c).before 3 t0_0 d = (inp m).win 1 c :=
  ((dat m c).before_fetched 3 _ (fetch0_3 _) d).trans (funext fun y => (congrFun (V_main_arg2 m c) _).trans
    (congrArg (m ((c : Thread nD τ).loc main_arg2)) (funext fun a => Fin.ext (whole_val 3 _ a))))
theorem before_4 (d) : (dat m c).before 4 t0_0 d = (inp m).wout 1 c :=
  ((dat m c).before_fetched 4 _ (fetch0_4 _) d).trans (funext fun y => (congrFun (V_main_arg5 m c) _).trans
    (congrArg (m ((c : Thread nD τ).loc main_arg5)) (funext fun a => Fin.ext (whole_val 4 _ a))))
theorem before_5 (d) : (dat m c).before 5 t0_0 d = (inp m).win 2 c :=
  ((dat m c).before_fetched 5 _ (fetch0_5 _) d).trans (funext fun y => (congrFun (V_main_arg3 m c) _).trans
    (congrArg (m ((c : Thread nD τ).loc main_arg3)) (funext fun a => Fin.ext (whole_val 5 _ a))))
theorem before_6 (d) : (dat m c).before 6 t0_0 d = (inp m).wout 2 c :=
  ((dat m c).before_fetched 6 _ (fetch0_6 _) d).trans (funext fun y => (congrFun (V_main_arg6 m c) _).trans
    (congrArg (m ((c : Thread nD τ).loc main_arg6)) (funext fun a => Fin.ext (whole_val 6 _ a))))

end Before

/-- The result's array after the call. -/
theorem arr_7 (c : Dev nD) : (dat m c).arrAt 7 cfg0.N = outX (inp m) c :=
  (dat m c).arrAt_eq_of_after_last 7 t0_0 (by decide +kernel) _ (fun j => rfl)

/-! ## The body obligation -/

/-- The staging buffers. -/
def stages : Mems where
  m0 := Memref.whole cc0_stg0_0
  m1 := Memref.whole cc0_stg1_0
  m2 := Memref.whole cc0_stg2_0
  m3 := Memref.whole cc0_stg3_0
  m4 := Memref.whole cc0_stg4_0
  m5 := Memref.whole cc0_stg5_0
  m6 := Memref.whole cc0_stg6_0
  m7 := Memref.whole cc0_stg7_0

theorem owesAt_intro (c : Dev nD) (t : Fin (cfg0.N + 1)) (O : CellTallies nD τ sig Unit) (h : (dat m c).owed t = O) (W : Waits sig Unit) :
    (owes (c : Thread nD τ) O W : sProp 𝕄) ⊢ (dat m c).owesAt () t := by
  unfold Dat.owesAt Pipeline.owesWithin
  rw [h]
  iintro HO; iexists W; isplitr; · ipureintro; exact fun _ _ => Or.inl trivial
  iexact HO
theorem owesAt_elim (c : Dev nD) (t : Fin (cfg0.N + 1)) (O : CellTallies nD τ sig Unit) (h : (dat m c).owed t = O) :
    (dat m c).owesAt () t ⊢ (iprop(∃ W, owes (c : Thread nD τ) O W) : sProp 𝕄) := by
  unfold Dat.owesAt Pipeline.owesWithin
  rw [h]
  iintro ⟨%W, -, HO⟩; iexists W; iexact HO

/-- What the device owes before the body, and that after it nothing is owed. -/
theorem owed_start (c : Dev nD) : (dat m c).owed t0_0.castSucc = O₀ c := by
  show (if (t0_0.castSucc : Fin (cfg0.N + 1)).val = 0 then O₀ c else 0) = O₀ c; exact if_pos rfl
theorem owed_end (c : Dev nD) : (dat m c).owed t0_0.succ = 0 := by simp [dat]

/-- The result complete is the result. -/
theorem out_done (c : Dev nD) : (outF (inp m) stages c 4 : sProp 𝕄) ⊢ owns (c : Thread nD τ) stages.m7 fullShare (outX (inp m) c) := by
  unfold outF
  iintro ⟨%X, %hX, H⟩
  rw [show X = outX (inp m) c from funext fun i => hX i (by have h := (i (0 : Fin 2)).isLt; have h' : (i (0 : Fin 2)).val < 64 := h; omega)]
  iexact H

def bodyPre (c : Dev nD) : sProp 𝕄 :=
  iprop((Xk m c ∗ scr c ∗ ∃ r, prngReg c r) ∗ (dat m c).owesAt () t0_0.castSucc
    ∗ (∃ d, owns (c : Thread nD τ) stages.m0 fullShare ((dat m c).before 0 t0_0 d))
    ∗ (∃ d, owns (c : Thread nD τ) stages.m1 fullShare ((dat m c).before 1 t0_0 d))
    ∗ (∃ d, owns (c : Thread nD τ) stages.m2 fullShare ((dat m c).before 2 t0_0 d))
    ∗ (∃ d, owns (c : Thread nD τ) stages.m3 fullShare ((dat m c).before 3 t0_0 d))
    ∗ (∃ d, owns (c : Thread nD τ) stages.m4 fullShare ((dat m c).before 4 t0_0 d))
    ∗ (∃ d, owns (c : Thread nD τ) stages.m5 fullShare ((dat m c).before 5 t0_0 d))
    ∗ (∃ d, owns (c : Thread nD τ) stages.m6 fullShare ((dat m c).before 6 t0_0 d))
    ∗ (∃ d, owns (c : Thread nD τ) stages.m7 fullShare ((dat m c).before 7 t0_0 d)))

def bodyPost (c : Dev nD) : sProp 𝕄 :=
  iprop((cells0 c ∗ semVal (barCell c) 0 ∗ scr c ∗ ∃ r, prngReg c r) ∗ (dat m c).owesAt () t0_0.succ
    ∗ owns (c : Thread nD τ) stages.m0 fullShare ((inp m).x c)
    ∗ owns (c : Thread nD τ) stages.m1 fullShare ((inp m).win 0 c) ∗ owns (c : Thread nD τ) stages.m2 fullShare ((inp m).wout 0 c)
    ∗ owns (c : Thread nD τ) stages.m3 fullShare ((inp m).win 1 c) ∗ owns (c : Thread nD τ) stages.m4 fullShare ((inp m).wout 1 c)
    ∗ owns (c : Thread nD τ) stages.m5 fullShare ((inp m).win 2 c) ∗ owns (c : Thread nD τ) stages.m6 fullShare ((inp m).wout 2 c)
    ∗ owns (c : Thread nD τ) stages.m7 fullShare (outX (inp m) c))

theorem body_pre (c : Dev nD) : bodyPre m c ⊢ iprop((∃ K, St0 (inp m) K stages c 0) ∗ ∃ r, prngReg c r) := by
  unfold bodyPre Xk
  simp only [before_0, before_1, before_2, before_3, before_4, before_5, before_6]
  iintro ⟨⟨⟨⟨%K, HR⟩, Hh⟩, Hscr, Hp⟩, HO, ⟨%d0, H0⟩, ⟨%d1, H1⟩, ⟨%d2, H2⟩, ⟨%d3, H3⟩, ⟨%d4, H4⟩, ⟨%d5, H5⟩, ⟨%d6, H6⟩, ⟨%d7, H7⟩⟩
  ihave HO := (owesAt_elim m c _ (O₀ c) (owed_start m c)) $$ HO
  icases HO with ⟨%W, HO⟩
  isplitr [Hp]
  · iexists K
    isplitr [H0 H1 H2 H3 H4 H5 H6]
    · isplitl [HR]; · iexact HR
      isplitl [Hh Hscr HO]
      · iapply (pre_intro (inp m) c W)
        isplitl [Hh]; · iexact Hh
        isplitl [Hscr] <;> iassumption
      unfold outF
      iexists ((dat m c).before 7 t0_0 d7)
      isplitr
      · ipureintro; intro i hi; exact absurd hi (Nat.not_lt_zero _)
      iexact H7
    unfold ins
    isplitl [H0]; · iexact H0
    isplitl [H1]; · iexact H1
    isplitl [H2]; · iexact H2
    isplitl [H3]; · iexact H3
    isplitl [H4]; · iexact H4
    isplitl [H5] <;> iassumption
  iexact Hp

theorem body_post (c : Dev nD) (K : GSem nD τ sig → ℕ) :
    iprop(St (inp m) K stages c 24 72 72 72 4 ∗ ∃ r, prngReg c r) ⊢ bodyPost m c := by
  unfold bodyPost St ins
  iintro ⟨⟨⟨-, Hm, Ho⟩, H0, H1, H2, H3, H4, H5, H6⟩, Hp⟩
  ihave Hm := (mid_elim (inp m) c) $$ Hm
  icases Hm with ⟨Hscr, Hc0, Hb, ⟨%W, HO⟩⟩
  isplitl [Hscr Hc0 Hb Hp]
  · isplitl [Hc0]; · iexact Hc0
    isplitl [Hb]; · iexact Hb
    isplitl [Hscr] <;> iassumption
  isplitl [HO]; · iapply (owesAt_intro m c _ 0 (owed_end m c) W) $$ HO
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (out_done m c) $$ Ho

set_option maxRecDepth 100000 in
theorem body_ob (c : Dev nD) : BodyObligation (dat m c) defs₀ 𝒱₀ () Set.univ := fun t => by
  obtain rfl := fin_N0 t
  rw [bigSep_W0, bigSep_W0]
  show bodyPre m c ⊢ wp frame (wpE (defs₀ (F := F)) 𝒱₀ (c : Thread nD τ) none) Set.univ
    (cc0_body stages.m0 (hstage0_0 0) stages.m1 (hstage0_1 0) stages.m2 (hstage0_2 0) stages.m3 (hstage0_3 0) stages.m4 (hstage0_4 0)
      stages.m5 (hstage0_5 0) stages.m6 (hstage0_6 0) stages.m7 (hstage0_7 0) (Memref.whole cc0_scratch0) (Memref.isWhole_whole _) cc0_scratch1 cc0_scratch2)
    (fun _ => bodyPost m c)
  refine (body_pre m c).trans ?_
  iintro ⟨⟨%K, H⟩, Hp⟩
  have hb := body_run (inp m) K stages c (hstage0_0 0) (hstage0_1 0) (hstage0_2 0) (hstage0_3 0) (hstage0_4 0) (hstage0_5 0) (hstage0_6 0) (hstage0_7 0)
  unfold run at hb
  have he := (sep_mono_left (Q := iprop(∃ r, prngReg c r)) hb).trans ((wp_frame_r _ _ _).trans (wp_mono _ _ _ fun _ => body_post m c K))
  iapply he $$ [H Hp]
  isplitl [H] <;> iassumption

end Cert.KernelIdeal

end
-- ==== Proof.KernelIdeal.Call.lean ====
/-
  The pallas_call as one region of the program, entered with the protocol's records and this device's share of it: its 144
  transfer cells are opened at the entry, and come back closed, each counter at zero.
-/
module

public import proofs.«01_k».proof.Proof.KernelIdeal.Region
public import Idealize.ShloMosaic.Lib.Pipeline.RegionTalk

@[expose] public section

set_option maxRecDepth 8000

noncomputable section

namespace Cert.KernelIdeal

open Idealize.ShloMosaic Idealize.ShloMosaic.TcCoe
open Idealize.SL Idealize.SL.RA Idealize.SL.BI Idealize.SL.BI.Laws Idealize.SL.Sem Idealize.SL.ProofMode
open scoped Idealize.SL.BI
open Idealize.SL.BI.BIBase
open Idealize.ShloMosaic.Rounds
open Gen
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells of the call -/

/-- The call's own counters: a send and a landing counter for each of the 72 copies. -/
def osem : Fin 72 ⊕ Fin 72 → SemLoc sig
  | .inl i => .dma (sendSem i)
  | .inr i => .dma (recvSem i)

theorem osem_inj : Function.Injective osem := by
  rintro (i | i) (j | j) h
  · exact congrArg Sum.inl (sendSem_inj h)
  · have := congrArg role (show (SemLoc.dma (sendSem i) : SemLoc sig) = .dma (recvSem j) from h); rw [role_send, role_recv] at this; cases this
  · have := congrArg role (show (SemLoc.dma (recvSem i) : SemLoc sig) = .dma (sendSem j) from h); rw [role_send, role_recv] at this; cases this
  · exact congrArg Sum.inr (recvSem_inj h)

theorem osem_facts : Pipeline.OwnSemFacts spec0 osem where
  isScoped := by decide +kernel
  inj := osem_inj
  disj := by decide +kernel

theorem own_eq (c : Dev nD) : (Pipeline.ownSems0 osem c : sProp 𝕄) = cells0 c := by
  unfold Pipeline.ownSems0 cells0
  rw [bigSep_univ_sum]
  rfl

/-- What the launch keeps for the call: the device's share, its transfer cells not yet opened. -/
def share0 (c : Dev nD) : sProp 𝕄 :=
  iprop((bigSep Finset.univ fun o : Fin 6 => dutyTok ER (barCell (peer o c)) 0 o)
    ∗ (bigSep Finset.univ fun i : Fin 72 => iprop(dutyTok ER (sendCell c i) 0 0 ∗ dutyTok ER (recvCell (px c i) i) 0 0))
    ∗ (bigSep Finset.univ fun i : Fin 72 => openTok ER (sendCell c i))
    ∗ (bigSep Finset.univ fun i : Fin 72 => openTok ER (recvCell c i))
    ∗ (bigSep Finset.univ fun i : Fin 72 => cred (tallyAt (recvCell c i) () N))
    ∗ atPos ER (barCell c) 0 ∅ 0 ∗ cred (tallyAt (barCell c) () 6))

def Tk (c : Dev nD) : sProp 𝕄 := iprop((∃ K, recs (inp m) K) ∗ share0 c)
def Yk (c : Dev nD) : sProp 𝕄 := semVal (barCell c) 0

theorem open_send (K : GSem nD τ sig → ℕ) (c : Dev nD) :
    iprop(recs (inp m) K ∗ (bigSep Finset.univ fun i : Fin 72 => openTok ER (sendCell c i)) ∗ bigSep Finset.univ fun i : Fin 72 => semVal (sendCell c i) 0)
      ⊢ (|={Set.univ}=> bigSep Finset.univ fun i : Fin 72 => iprop(atPos ER (sendCell c i) 0 ∅ 0 ∗ reached ER (sendCell c i) 0) : sProp 𝕄) := by
  have h (i : Fin 72) : iprop(recs (inp m) K ∗ (openTok ER (sendCell c i) ∗ semVal (sendCell c i) 0))
      ⊢ (|={Set.univ}=> (atPos ER (sendCell c i) 0 ∅ 0 ∗ reached ER (sendCell c i) 0) : sProp 𝕄) := by
    iintro ⟨#HR, Ho, Hv⟩
    iapply (Rounds.cell_open ER (Rd (inp m)) (g := sendCell c i) (Set.mem_univ (K (sendCell c i))))
    isplitr; · iapply (recs_send (inp m) K c i); iexact HR
    isplitl [Ho] <;> iassumption
  refine (sep_mono_right family_zip).trans ((bigSep_with_persistent fun i _ => h i).trans (bigSep_fupd _ _))

theorem open_recv (K : GSem nD τ sig → ℕ) (c : Dev nD) :
    iprop(recs (inp m) K ∗ (bigSep Finset.univ fun i : Fin 72 => openTok ER (recvCell c i)) ∗ bigSep Finset.univ fun i : Fin 72 => semVal (recvCell c i) 0)
      ⊢ (|={Set.univ}=> bigSep Finset.univ fun i : Fin 72 => iprop(atPos ER (recvCell c i) 0 ∅ 0 ∗ reached ER (recvCell c i) 0) : sProp 𝕄) := by
  have h (i : Fin 72) : iprop(recs (inp m) K ∗ (openTok ER (recvCell c i) ∗ semVal (recvCell c i) 0))
      ⊢ (|={Set.univ}=> (atPos ER (recvCell c i) 0 ∅ 0 ∗ reached ER (recvCell c i) 0) : sProp 𝕄) := by
    iintro ⟨#HR, Ho, Hv⟩
    iapply (Rounds.cell_open ER (Rd (inp m)) (g := recvCell c i) (Set.mem_univ (K (recvCell c i))))
    isplitr; · iapply (recs_recv (inp m) K c i); iexact HR
    isplitl [Ho] <;> iassumption
  refine (sep_mono_right family_zip).trans ((bigSep_with_persistent fun i _ => h i).trans (bigSep_fupd _ _))

theorem hopen (c : Dev nD) : iprop(Tk m c ∗ Pipeline.ownSems0 osem c ∗ levAts L lv) ⊢ (|={Set.univ}=> Xk m c : sProp 𝕄) := by
  rw [own_eq]
  unfold Tk Xk share0 held0 cells0
  iintro ⟨⟨⟨%K, #HR⟩, Hb, Ht, Hos, Hor, Hcr, Hat, Hcb⟩, ⟨Hsv, Hrv⟩, -⟩
  imod (open_send m K c) $$ [Hos Hsv] with Hs
  · isplitr; · iexact HR
    isplitl [Hos] <;> iassumption
  imod (open_recv m K c) $$ [Hor Hrv] with Hr
  · isplitr; · iexact HR
    isplitl [Hor] <;> iassumption
  imodintro
  isplitr; · iexists K; iexact HR
  isplitl [Hb]; · iexact Hb
  isplitl [Ht]; · iexact Ht
  isplitl [Hs]; · iexact Hs
  isplitl [Hr Hcr]
  · iapply family_zip; isplitl [Hr] <;> iassumption
  isplitl [Hat] <;> iassumption

/-! ## The region -/

theorem dat_owed (c : Dev nD) (t : Fin (cfg0.N + 1)) : (dat m c).owed t = if t.val = 0 then O₀ c else 0 := rfl
theorem owed0 (c : Dev nD) : (pdats m 0 c).owed 0 = O₀ c := (dat_owed m c 0).trans (if_pos rfl)
theorem owedN (c : Dev nD) : (pdats m 0 c).owed (Fin.last _) = 0 :=
  (dat_owed m c (Fin.last _)).trans (if_neg (by rw [Fin.val_last]; decide))

/-- The staging counters are waited on at level 0; every cell a device owes to is above it. -/
theorem cutD (c : Dev nD) (t : Fin ((Pipeline.pin (pcfgs (F := F)) adm 0).N + 1)) (g : GSem nD τ sig) (i : Unit)
    (h : 0 < (pdats m 0 c).owed t g i) : i ∈ L g ∧ (0 : ℕ) < lv g i := by
  rw [show (pdats m 0 c).owed t = if t.val = 0 then O₀ c else 0 from dat_owed m c t] at h
  split at h
  · unfold O₀ at h
    rw [Pi.add_apply, Finsupp.add_apply] at h
    rcases Nat.add_pos_iff_pos_or_pos.mp h with h | h
    · obtain ⟨j, -, rfl⟩ := owedCopies_pos h
      exact ⟨by rw [L_tc]; exact Finset.mem_singleton_self _, by show 0 < lvR (role (SemLoc.dma (recvSem j))); rw [role_recv]; exact Nat.succ_pos _⟩
    · obtain ⟨o, -, rfl⟩ := owedFrom_pos (cell := fun o => barCell (peer o c)) h
      exact ⟨by rw [L_tc]; exact Finset.mem_singleton_self _, by show 0 < lvR (role (SemLoc.reg barS)); rw [role_bar]; exact Nat.one_pos⟩
  · exact absurd h (Nat.lt_irrefl 0)

theorem scoped_eq (c : Dev nD) : (Pipeline.scopedRest (Ix := Unit) (Name := ℕ) (U := UU) (Lvl := ℕ) (Val := Elt F) (Pipeline.pin (pcfgs (F := F)) adm 0).spec c : sProp 𝕄) = scr c :=
  Pipeline.scopedRest_eq_of_list spec0 c [cc0_scratch0] (by decide +kernel) (by decide +kernel)

theorem held_none (c : Dev nD) (W : Valuation τ sig (Elt F)) : (StableHlo.held (c.tc : Thread nD τ) ∅ W : sProp 𝕄) = BI.emp := by
  unfold StableHlo.held; exact BI.bigSep_empty

theorem hin (c : Dev nD) : iprop(Pipeline.scopedRest (Pipeline.pin (pcfgs (F := F)) adm 0).spec c ∗ (∃ r, prngReg c r)
      ∗ StableHlo.held (c.tc : Thread nD τ) ∅ (V₁ m c) ∗ Xk m c) ⊢ (pdats m 0 c).Φ 0 := by
  rw [show (pdats m 0 c).Φ 0 = iprop(Xk m c ∗ scr c ∗ ∃ r, prngReg c r) from rfl, scoped_eq]
  iintro ⟨Hs, Hp, -, HK⟩
  isplitl [HK]; · iexact HK
  isplitl [Hs] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ Yk c) := by
  rw [show (pdats m 0 c).Φ (Fin.last _) = iprop(cells0 c ∗ semVal (barCell c) 0 ∗ scr c ∗ ∃ r, prngReg c r) from rfl,
    scoped_eq, own_eq, held_none]
  unfold Yk
  iintro ⟨Hc, Hb, Hs, Hp⟩
  isplitl [Hs]; · iexact Hs
  isplitl [Hp]; · iexact Hp
  isplitr; · iempintro
  isplitl [Hc] <;> iassumption

/-- The arrays' contents when the call returns: the seven arguments unchanged, the result written. -/
theorem arr_after (c : Dev nD) (w : Fin 8) : (dat m c).arrAt w cfg0.N = V₂ m c (Proc.devRef .tc (Pipeline.arrRef spec0 w)) := by
  have hne (r : Ref sig .tc) (hr : r ≠ main_v1) : V₂ m c (Proc.devRef .tc r) = V m c r :=
    Function.update_of_ne (StableHlo.devRef_ne_of_ne hr) _ _
  fin_cases w
  · exact ((dat m c).arrAt_in 0 rfl _).trans (hne main_arg0 (by decide)).symm
  · exact ((dat m c).arrAt_in 1 rfl _).trans (hne main_arg1 (by decide)).symm
  · exact ((dat m c).arrAt_in 2 rfl _).trans (hne main_arg4 (by decide)).symm
  · exact ((dat m c).arrAt_in 3 rfl _).trans (hne main_arg2 (by decide)).symm
  · exact ((dat m c).arrAt_in 4 rfl _).trans (hne main_arg5 (by decide)).symm
  · exact ((dat m c).arrAt_in 5 rfl _).trans (hne main_arg3 (by decide)).symm
  · exact ((dat m c).arrAt_in 6 rfl _).trans (hne main_arg6 (by decide)).symm
  · exact (arr_7 m c).trans (Function.update_self (Proc.devRef .tc main_v1) (outX (inp m) c) (V₁ m c)).symm

theorem share_full (c : Dev nD) (w) : (pdats m 0 c).share w = fullShare := by
  show (if _ then _ else _) = _; split <;> rfl

theorem stage_lv : ∀ (w : Fin 8) (s : Fin (spec0 w).nbuf), lvR (role (SemLoc.dma ((spec0 w).sem s) : SemLoc sig)) = 0 := by decide +kernel

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

set_option backward.isDefEq.respectTransparency.types false in
def reg0 : ℝ𝕊 0 :=
  Pipeline.RegionSeg.ofTalk (pcfgs (F := F)) adm (pdats m) () defs₀ 𝒱₀ L lv 0 osem osem_facts
    ∅ ∅ (Finset.Subset.refl _) launch0.toP rfl (fun c => (body_ob m c).loose)
    (fun _ => 0) O₀ (fun c => (owed0 m c).trans (zero_add _).symm) (owedN m) (fun _ => rfl) (share_full m)
    (V₁ m) (V₂ m) (fun _ b hb => absurd hb (by rw [Finset.sdiff_self]; exact Finset.notMem_empty b))
    (Tk m) Yk (Xk m) Yk (hopen m) (hin m) (hout m)
    (fun c => by iintro H; imodintro; iexact H)
    (fun _ => 0)
    ⟨fun c w s => by rw [L_tc]; exact Finset.mem_singleton_self _, fun c w s => Nat.le_of_eq (stage_lv w s), fun c t g i h => cutD m c t g i h⟩
    (fun _ => iprop(emp))
    (fun _ _ => rfl) (arr_after m)

end Cert.KernelIdeal

end
-- ==== Proof.KernelIdeal.Dealing.lean ====
/-
  Dealing out the protocol at launch: the cells and duty tokens of all devices, the tokens that go to the partner who pays
  them, and the credit a device starts with, which is what its partners owe it.
-/
module

public import proofs.«01_k».proof.Proof.KernelIdeal.Call

@[expose] public section

set_option maxRecDepth 8000

noncomputable section

namespace Cert.KernelIdeal

open Idealize.ShloMosaic Idealize.ShloMosaic.TcCoe
open Idealize.SL Idealize.SL.RA Idealize.SL.BI Idealize.SL.BI.Laws Idealize.SL.Sem Idealize.SL.ProofMode
open scoped Idealize.SL.BI
open Idealize.SL.BI.BIBase
open Idealize.ShloMosaic.Rounds
open Gen

variable {F : FTy → Type} [FloatOps F]

local notation "𝕄" => MT nD τ sig Unit (Elt F) ℕ UU ℕ

/-! ## Cells and tokens -/

theorem osem_ne_bar (k : Fin 72 ⊕ Fin 72) : osem k ≠ .reg barS := by
  rcases k with i | i <;> exact fun h => by cases h

def barEmb : Dev nD ↪ GSem nD τ sig := ⟨fun c => barCell c, fun _ _ h => congrArg (fun g : GSem nD τ sig => g.1.1) h⟩
def dmaEmb : Dev nD × (Fin 72 ⊕ Fin 72) ↪ GSem nD τ sig :=
  ⟨fun ck => ((ck.1 : Thread nD τ), osem ck.2), fun _ _ h =>
    Prod.ext (congrArg (fun g : GSem nD τ sig => g.1.1) h) (osem_inj (congrArg Prod.snd h))⟩

abbrev barCells : Finset (GSem nD τ sig) := Finset.univ.map barEmb
abbrev dmaCells : Finset (GSem nD τ sig) := Finset.univ.map dmaEmb

/-- A device's duty tokens by counter: one per offset at its barrier, one at each of its transfer counters. -/
def tokAt : Fin 6 ⊕ (Fin 72 ⊕ Fin 72) → SemLoc sig × Fin 6
  | .inl o => (.reg barS, o)
  | .inr k => (osem k, 0)

theorem tokAt_inj : Function.Injective tokAt := by
  rintro (o | k) (o' | k') h
  · exact congrArg Sum.inl (congrArg Prod.snd h)
  · exact absurd (congrArg Prod.fst h).symm (osem_ne_bar k')
  · exact absurd (congrArg Prod.fst h) (osem_ne_bar k)
  · exact congrArg Sum.inr (osem_inj (congrArg Prod.fst h))

def tokens : Finset (GSem nD τ sig × ℕ × Fin 6) :=
  Finset.univ.map ⟨fun ck : Dev nD × (Fin 6 ⊕ (Fin 72 ⊕ Fin 72)) => (((ck.1 : Thread nD τ), (tokAt ck.2).1), 0, (tokAt ck.2).2), fun _ _ h =>
    Prod.ext (congrArg (fun t : GSem nD τ sig × ℕ × Fin 6 => t.1.1.1) h)
      (tokAt_inj (Prod.ext (congrArg (fun t : GSem nD τ sig × ℕ × Fin 6 => t.1.2) h) (congrArg (fun t : GSem nD τ sig × ℕ × Fin 6 => t.2.2) h)))⟩

theorem disjoint_cells : Disjoint (barCells : Finset (GSem nD τ sig)) dmaCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- A family over the transfer cells, device by device. -/
theorem dma_family (Φ : GSem nD τ sig → sProp 𝕄) : bigSep dmaCells Φ
    = bigSep Finset.univ fun c : Dev nD => iprop((bigSep Finset.univ fun i : Fin 72 => Φ (sendCell c i)) ∗ bigSep Finset.univ fun i : Fin 72 => Φ (recvCell c i)) := by
  rw [bigSep_map, bigSep_univ_prod]
  exact bigSep_congr fun c _ => by rw [bigSep_univ_sum]; rfl

/-- And the sends' and the landings' apart. -/
theorem dma_apart (Φ : GSem nD τ sig → sProp 𝕄) : bigSep dmaCells Φ
    = iprop((bigSep Finset.univ fun pi : Dev nD × Fin 72 => Φ (sendCell pi.1 pi.2)) ∗ bigSep Finset.univ fun pi : Dev nD × Fin 72 => Φ (recvCell pi.1 pi.2)) := by
  rw [dma_family, bigSep_sep', bigSep_univ_prod, bigSep_univ_prod]

/-- The tokens device by device, each at the device whose cell it is of. -/
theorem tokens_family : (bigSep tokens fun x => (dutyTok ER x.1 x.2.1 x.2.2 : sProp 𝕄))
    = bigSep Finset.univ fun c : Dev nD => iprop((bigSep Finset.univ fun o : Fin 6 => dutyTok ER (barCell c) 0 o)
      ∗ (bigSep Finset.univ fun i : Fin 72 => dutyTok ER (sendCell c i) 0 0) ∗ bigSep Finset.univ fun i : Fin 72 => dutyTok ER (recvCell c i) 0 0) := by
  unfold tokens
  rw [bigSep_map, bigSep_univ_prod]
  exact bigSep_congr fun c _ => by rw [bigSep_univ_sum, bigSep_univ_sum]; rfl

/-- A family of families handed to partners: each index's devices are paired off, so every member goes to one device. -/
theorem around {ι : Type} [Fintype ι] (e : ι → Dev nD → Dev nD) (he : ∀ i c, e i (e i c) = c) (Φ : Dev nD → ι → sProp 𝕄) :
    (bigSep Finset.univ fun c : Dev nD => bigSep Finset.univ fun i : ι => Φ c i)
      = bigSep Finset.univ fun c : Dev nD => bigSep Finset.univ fun i : ι => Φ (e i c) i := by
  rw [bigSep_univ_comm, bigSep_univ_comm (fun c i => Φ (e i c) i)]
  exact bigSep_congr fun i _ => bigSep_univ_equiv ⟨e i, e i, he i, he i⟩ fun c => Φ c i

/-- The tokens where they are paid from: a barrier's at the partner that signals it, a landing's at the sender. -/
theorem tokens_dealt : (bigSep tokens fun x => (dutyTok ER x.1 x.2.1 x.2.2 : sProp 𝕄))
    ⊢ bigSep Finset.univ fun c : Dev nD => iprop((bigSep Finset.univ fun o : Fin 6 => dutyTok ER (barCell (peer o c)) 0 o)
      ∗ bigSep Finset.univ fun i : Fin 72 => iprop(dutyTok ER (sendCell c i) 0 0 ∗ dutyTok ER (recvCell (px c i) i) 0 0)) := by
  rw [tokens_family, bigSep_sep', bigSep_sep', bigSep_sep',
    around peer peer_peer (fun c o => dutyTok ER (barCell c) 0 o),
    around (fun i c => px c i) (fun i c => px_px c i) (fun c i => dutyTok ER (recvCell c i) 0 0), ← bigSep_sep']
  exact sep_mono_right (bigSep_mono fun c _ => family_zip)

/-! ## Credit -/

theorem owedFrom_all {n : ℕ} (T : Fin n → CellTallies nD τ sig Unit) (g : GSem nD τ sig) (u : Unit) : owedFrom T 0 g u = ∑ i, T i g u := by
  unfold owedFrom
  rw [Finset.filter_true_of_mem fun i _ => Nat.zero_le _, Finset.sum_apply, Finsupp.finset_sum_apply]

theorem cell_dev {a b : Dev nD} {s s' : SemLoc sig} (h : (((a : Thread nD τ), s) : GSem nD τ sig) = ((b : Thread nD τ), s')) : a = b :=
  congrArg (fun g : GSem nD τ sig => g.1.1) h

theorem owe_bar (c : Dev nD) : ∑ d : Dev nD, O₀ d (barCell c) () = 6 := by
  have h1 (d : Dev nD) : owedCopies d 0 (barCell c) () = 0 := by
    unfold owedCopies
    rw [owedFrom_all]
    refine Finset.sum_eq_zero fun i _ => ?_
    rw [tallyAt_apply, if_neg]
    rintro ⟨h, -⟩
    have := congrArg (fun g : GSem nD τ sig => role g.2) h
    dsimp only at this
    rw [role_bar, role_recv] at this; cases this
  have h2 (d : Dev nD) : O₀ d (barCell c) () = ∑ o : Fin 6, if d = peer o c then 1 else 0 := by
    unfold O₀
    rw [Pi.add_apply, Finsupp.add_apply, h1, zero_add, owedFrom_all]
    refine Finset.sum_congr rfl fun o _ => ?_
    rw [tallyAt_apply]
    refine if_congr ⟨fun h => ?_, fun h => ?_⟩ rfl rfl
    · rw [cell_dev h.1, peer_peer]
    · rw [h, peer_peer]; exact ⟨rfl, rfl⟩
  rw [Finset.sum_congr rfl fun d _ => h2 d, Finset.sum_comm, Finset.sum_congr rfl fun o _ => Finset.sum_ite_eq' Finset.univ (peer o c) fun _ => 1]
  simp

theorem owe_recv (c : Dev nD) (i : Fin 72) : ∑ d : Dev nD, O₀ d (recvCell c i) () = N := by
  have h1 (d : Dev nD) : owedFrom (barOwe d) 0 (recvCell c i) () = 0 := by
    rw [owedFrom_all]
    refine Finset.sum_eq_zero fun o _ => ?_
    rw [tallyAt_apply, if_neg]
    rintro ⟨h, -⟩
    have := congrArg (fun g : GSem nD τ sig => role g.2) h
    dsimp only at this
    rw [role_bar, role_recv] at this; cases this
  have h2 (d : Dev nD) : O₀ d (recvCell c i) () = if d = px c i then N else 0 := by
    unfold O₀ owedCopies
    rw [Pi.add_apply, Finsupp.add_apply, h1, add_zero, owedFrom_all, Fintype.sum_eq_single i, tallyAt_apply]
    · refine if_congr ⟨fun h => ?_, fun h => ?_⟩ rfl rfl
      · rw [cell_dev h.1, px_px]
      · rw [h, px_px]; exact ⟨rfl, rfl⟩
    · intro j hj
      rw [tallyAt_apply, if_neg]
      rintro ⟨h, -⟩
      exact hj (recvSem_inj (congrArg Prod.snd h)).symm
  rw [Finset.sum_congr rfl fun d _ => h2 d, Finset.sum_ite_eq' Finset.univ (px c i) fun _ => N, if_pos (Finset.mem_univ _)]

theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- The landing counters of a device. -/
def recvEmb : Fin 72 ↪ SemLoc sig := ⟨fun i => .dma (recvSem i), fun _ _ h => recvSem_inj h⟩

theorem creds (c : Dev nD) : (Pipeline.launchCred O₀ c : sProp 𝕄)
    ⊢ iprop((bigSep Finset.univ fun i : Fin 72 => cred (tallyAt (recvCell c i) () N)) ∗ cred (tallyAt (barCell c) () 6)) := by
  have hs : (Finset.univ.map recvEmb) ⊆ Finset.univ.erase (SemLoc.reg barS) := fun s h => by
    obtain ⟨i, -, rfl⟩ := Finset.mem_map.mp h
    exact Finset.mem_erase.mpr ⟨(fun h => by cases h), Finset.mem_univ _⟩
  unfold Pipeline.launchCred
  rw [bigSep_univ_at _ (SemLoc.reg barS), launch_at _ _ (owe_bar c)]
  refine (sep_mono_right (bigSep_subset hs)).trans ?_
  rw [bigSep_map]
  refine (sep_mono_right (family_mono (Ψ := fun i : Fin 72 => (cred (tallyAt (recvCell c i) () N) : sProp 𝕄)) fun i =>
    Entails.of_eq (congrArg cred (launch_at (recvCell c i) N (owe_recv c i))))).trans sep_comm

end Cert.KernelIdeal

end
-- ==== Proof.KernelIdeal.Run.lean ====
/-
  The run on the sixteen devices: every execution ends, the arguments are unchanged, each device's result is what the
  body computes of all devices' arrays, and every counter is back at zero.
-/
module

public import proofs.«01_k».proof.Proof.KernelIdeal.Dealing

@[expose] public section

set_option maxRecDepth 8000

noncomputable section

namespace Cert.KernelIdeal

open Idealize.ShloMosaic Idealize.ShloMosaic.TcCoe
open Idealize.SL Idealize.SL.RA Idealize.SL.BI Idealize.SL.BI.Laws Idealize.SL.Sem Idealize.SL.ProofMode
open scoped Idealize.SL.BI
open Idealize.SL.BI.BIBase
open Idealize.ShloMosaic.Rounds
open Gen

variable {F : FTy → Type} [FloatOps F]

local notation "𝕄" => MT nD τ sig Unit (Elt F) ℕ UU ℕ

variable (m : (ℓ : Loc nD τ sig) → Buf (Elt F) ℓ) (ρ : Dev nD → PrngReg)

/-! ## The buffers -/

/-- Every unscoped buffer is an array of one of the call's windows. -/
abbrev bufs : Finset (DevRef τ sig) := Pipeline.arrRefs (τ := τ) spec0
theorem bufs_uc : bufs = Pipeline.ucRefs τ sig := by decide +kernel

/-- Buffer `b` of device `c`, held whole at `X`. -/
def pt (c : Dev nD) (b : Ref sig .tc) (X : Buf (Elt F) ((c : Thread nD τ).loc b)) : sProp 𝕄 := (c : Thread nD τ).loc b ↦{fullShare} X

theorem bufs_eq (c : Dev nD) (W : Valuation τ sig (Elt F)) : (StableHlo.held (c : Thread nD τ) bufs W : sProp 𝕄)
    = iprop(pt c main_arg0 (W main_arg0) ∗ pt c main_arg1 (W main_arg1) ∗ pt c main_arg2 (W main_arg2) ∗ pt c main_arg3 (W main_arg3)
      ∗ pt c main_arg4 (W main_arg4) ∗ pt c main_arg5 (W main_arg5) ∗ pt c main_arg6 (W main_arg6) ∗ pt c main_v1 (W main_v1)) := by
  unfold StableHlo.held
  rw [bigSep_eq_bigSepL_of_eq [Proc.devRef .tc main_arg0, Proc.devRef .tc main_arg1, Proc.devRef .tc main_arg2, Proc.devRef .tc main_arg3,
    Proc.devRef .tc main_arg4, Proc.devRef .tc main_arg5, Proc.devRef .tc main_arg6, Proc.devRef .tc main_v1] (by decide +kernel) (by decide +kernel)]
  rfl

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

/-! ## The two segments -/

/-- What rides beside the buffers up to the call. -/
def Rc (c : Dev nD) : sProp 𝕄 := iprop(Tk m c ∗ (∃ r, prngReg c r) ∗ ∃ W, owes (c : Thread nD τ) (O₀ c) W)

def seg0 : Pipeline.HostSeg (Name := ℕ) (U := UU) (pcfgs (F := F)) defs₀ 𝒱₀ L lv :=
  Pipeline.HostSeg.ofOps _ _ _ _ _ bufs hostOps0
    (fun op h => (Pipeline.sub_ucRefs op (List.forall_iff_forall_mem.mp hostOps0_sub op h)).trans (Finset.subset_of_eq bufs_uc.symm))
    (List.forall_iff_forall_mem.mp hostOps0_fresh) (V₀ m) (Rc m)

theorem reg0_pre (c : Dev nD) : iprop(StableHlo.held (c : Thread nD τ) bufs (V₁ m c) ∗ Rc m c) ⊢ (reg0 m).pre c := by
  show _ ⊢ iprop(StableHlo.held (c.tc : Thread nD τ) bufs (V₁ m c) ∗ (∃ r, prngReg c r)
    ∗ (StableHlo.held (c.tc : Thread nD τ) ∅ (V₁ m c) ∗ emp) ∗ Tk m c ∗ ∃ Wd, owes (c : Thread nD τ) (0 + O₀ c) Wd)
  rw [held_none, zero_add]
  unfold Rc
  iintro ⟨Hh, HT, Hp, HO⟩
  isplitl [Hh]; · iexact Hh
  isplitl [Hp]; · iexact Hp
  isplitr; · isplitr <;> iempintro
  isplitl [HT] <;> iassumption

theorem reg0_post (c : Dev nD) : (reg0 m).post c
    ⊢ iprop((StableHlo.held (c : Thread nD τ) bufs (V₂ m c) ∗ semVal (barCell c) 0) ∗ ∃ W, owes (c : Thread nD τ) (0 : CellTallies nD τ sig Unit) W) := by
  show iprop(StableHlo.held (c.tc : Thread nD τ) bufs (V₂ m c) ∗ (∃ r, prngReg c r)
    ∗ (StableHlo.held (c.tc : Thread nD τ) ∅ (V₂ m c) ∗ emp) ∗ Yk c ∗ ∃ Wd, owes (c : Thread nD τ) (0 : CellTallies nD τ sig Unit) Wd) ⊢ _
  unfold Yk
  iintro ⟨Hh, -, -, Hb, HO⟩
  isplitr [HO]
  · isplitl [Hh] <;> iassumption
  iexact HO

def segs : List (Pipeline.Seg (pcfgs (F := F)) adm (pdats m) () defs₀ 𝒱₀ L lv) := [.host (seg0 m), .region (reg0 m)]

theorem main_eq (c : Dev nD) : main (F := F) c = Pipeline.Seg.run (segs m) := main_segs adm (pdats m) () 𝒱₀ L lv (seg0 m) (reg0 m) rfl c

/-! ## The launch -/

/-- The launch element: the staging cells', and the protocol's. -/
def u₀ : UU :=
  (initOf (Pipeline.cells (Pipeline.pin (pcfgs (F := F)) adm) cellOf_inj) (Pipeline.launchToks (Pipeline.pin (pcfgs (F := F)) adm) cellOf_inj),
    launchOf barCells dmaCells tokens)

/-- The protocol's launch element is used for all devices at once, so it starts on device 0. -/
def G (c : Dev nD) : sProp 𝕄 := if c = 0 then BI.own (ER (launchOf barCells dmaCells tokens)) else iprop(emp)
theorem G_all : bigSep Finset.univ (G (F := F)) = BI.own (ER (launchOf barCells dmaCells tokens)) := by
  rw [bigSep_univ_at _ (0 : Dev nD), bigSep_congr (s := Finset.univ.erase 0) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

abbrev T₀ (c : Dev nD) : sProp 𝕄 := iprop(StableHlo.held (c : Thread nD τ) bufs (V₀ m c) ∗ Rc m c)
abbrev Tₙ (c : Dev nD) : sProp 𝕄 := iprop(StableHlo.held (c : Thread nD τ) bufs (V₂ m c) ∗ semVal (barCell c) 0)

/-- What the launch gives a device besides the protocol. -/
def own0 (c : Dev nD) : sProp 𝕄 :=
  iprop(StableHlo.held (c : Thread nD τ) bufs (V₀ m c)
    ∗ ((bigSep Finset.univ fun i : Fin 72 => cred (tallyAt (recvCell c i) () N)) ∗ cred (tallyAt (barCell c) () 6))
    ∗ owes (c : Thread nD τ) (O₀ c) ∅ ∗ ∃ r, prngReg c r)

/-- What the protocol gives it. -/
def part0 (c : Dev nD) : sProp 𝕄 :=
  iprop(atPos ER (barCell c) 0 ∅ 0
    ∗ ((bigSep Finset.univ fun i : Fin 72 => openTok ER (sendCell c i)) ∗ bigSep Finset.univ fun i : Fin 72 => openTok ER (recvCell c i))
    ∗ (bigSep Finset.univ fun o : Fin 6 => dutyTok ER (barCell (peer o c)) 0 o)
    ∗ bigSep Finset.univ fun i : Fin 72 => iprop(dutyTok ER (sendCell c i) 0 0 ∗ dutyTok ER (recvCell (px c i) i) 0 0))

theorem T₀_intro (K : GSem nD τ sig → ℕ) (c : Dev nD) : iprop(recs (inp m) K ∗ (part0 c ∗ own0 m c)) ⊢ T₀ m c := by
  unfold part0 own0 T₀ Rc Tk share0
  iintro ⟨#HR, ⟨Hat, ⟨Hos, Hor⟩, Hb, Ht⟩, Hh, ⟨Hcr, Hcb⟩, HO, Hp⟩
  isplitl [Hh]; · iexact Hh
  isplitr [Hp HO]
  · isplitr; · iexists K; iexact HR
    isplitl [Hb]; · iexact Hb
    isplitl [Ht]; · iexact Ht
    isplitl [Hos]; · iexact Hos
    isplitl [Hor]; · iexact Hor
    isplitl [Hcr]; · iexact Hcr
    isplitl [Hat] <;> iassumption
  isplitl [Hp]; · iexact Hp
  iexists ∅; iexact HO

theorem recs_intro (K : GSem nD τ sig → ℕ) :
    iprop((bigSep (barCells ∪ dmaCells) fun g => cellInv ER (Rd (inp m)) (K g) g) ∗ (bigSep barCells fun g => reached ER g 0) ∗ levAts L lv)
      ⊢ (recs (inp m) K : sProp 𝕄) := by
  have e : (bigSep (barCells ∪ dmaCells) fun g => (cellInv ER (Rd (inp m)) (K g) g : sProp 𝕄))
      = iprop((bigSep Finset.univ fun p : Dev nD => cellInv ER (Rd (inp m)) (K (barCell p)) (barCell p))
        ∗ (bigSep Finset.univ fun pi : Dev nD × Fin 72 => cellInv ER (Rd (inp m)) (K (sendCell pi.1 pi.2)) (sendCell pi.1 pi.2))
        ∗ bigSep Finset.univ fun pi : Dev nD × Fin 72 => cellInv ER (Rd (inp m)) (K (recvCell pi.1 pi.2)) (recvCell pi.1 pi.2)) := by
    rw [bigSep_union disjoint_cells, dma_apart, bigSep_map]; rfl
  have e' : (bigSep barCells fun g => (reached ER g 0 : sProp 𝕄)) = bigSep Finset.univ fun p : Dev nD => reached ER (barCell p) 0 := bigSep_map _
  rw [e, e']
  unfold recs
  iintro ⟨⟨Hb, Hs, Hr⟩, Hre, Hl⟩
  isplitl [Hb]; · iexact Hb
  isplitl [Hs]; · iexact Hs
  isplitl [Hr]; · iexact Hr
  isplitl [Hre] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(own0 m c ∗ (semVal (barCell c) 0 ∗ G c)) : sProp 𝕄) := by
    rw [show unscopedBufs c (fun b => m ((c : Thread nD τ).loc b)) = StableHlo.held (c : Thread nD τ) bufs (V₀ m c) from
        (Pipeline.unscopedBufs_held c (V₀ m c)).trans (by rw [bufs_uc]),
      unscopedSems_eq]
    unfold own0
    iintro ⟨Hh, Hus, HO, Hcr, Hp, HG⟩
    isplitr [Hus HG]
    · isplitl [Hh]; · iexact Hh
      isplitl [Hcr]; · iapply (creds (F := F) c) $$ Hcr
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen := Entails.of_eq (dma_family (F := F) fun g => openTok ER g)
  iintro ⟨H, Hlev⟩
  ihave H' := (family_mono hcore) $$ H
  ihave H2 := family_unzip $$ H'; icases H2 with ⟨HB, H3⟩
  ihave H4 := family_unzip $$ H3; icases H4 with ⟨Hv, HG⟩
  ihave Hu := (Entails.of_eq (G_all (F := F))) $$ HG
  imod (Rounds.fund_launch ER (Rd (inp m)) disjoint_cells (fun g _ h => h) tokens) $$ [Hv Hu] with ⟨%κ, -, Hinv, Hr, Hat, Hopen, Htok⟩
  · isplitl [Hv]
    · iapply hv $$ Hv
    · iexact Hu
  imodintro
  iapply (bigSep_with_persistent (R := recs (inp m) κ) (Φ := fun c => iprop(part0 c ∗ own0 m c)) fun c _ => T₀_intro m κ c)
  isplitl [Hinv Hr Hlev]
  · iapply (recs_intro m κ)
    isplitl [Hinv]; · iexact Hinv
    isplitl [Hr] <;> iassumption
  iapply family_zip
  isplitr [HB]
  · unfold part0
    iapply family_zip; isplitl [Hat]; · iapply hat $$ Hat
    iapply family_zip; isplitl [Hopen]; · iapply hopen $$ Hopen
    iapply (tokens_dealt (F := F)) $$ Htok
  · iexact HB

/-! ## The run -/

theorem unscoped_bar : ∀ sm : SemLoc sig, sm.isScoped .tc = false → sm = .reg barS := by decide +kernel

/-- The argument arrays after the program. -/
theorem V₂_arg (c : Dev nD) {r : Ref sig .tc} (hr : r ≠ main_v1) (h : V m c r = m ((c : Thread nD τ).loc r)) :
    V₂ m c r = m ((c : Thread nD τ).loc r) := (Function.update_of_ne (StableHlo.devRef_ne_of_ne hr) _ _).trans h
theorem V₂_out (c : Dev nD) : V₂ m c main_v1 = outX (inp m) c := Function.update_self (Proc.devRef .tc main_v1) (outX (inp m) c) (V₁ m c)

set_option backward.isDefEq.respectTransparency.types false in
/-- From any memory with zero counters, every weakly fair execution on the sixteen devices ends, with the arguments
    unchanged, the body's value in every device's result, and every counter at zero. -/
theorem run_main : θ_run defs (onTc (τ := τ) (main (F := F))) ⟨m, fun _ => 0, ρ⟩
    (fun r => (∀ c : Dev nD, r.2.mem ((c : Thread nD τ).loc main_v1) = outX (inp m) c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := ⟨fun c => .rfl, fun c => reg0_pre m c, fun c => reg0_post m c⟩)
    (hinit := init m ρ)
    (QY := fun c s => (s.mem ((c : Thread nD τ).loc main_v1) = V₂ m c main_v1
        ∧ s.mem ((c : Thread nD τ).loc main_arg0) = V₂ m c main_arg0
        ∧ s.mem ((c : Thread nD τ).loc main_arg1) = V₂ m c main_arg1
        ∧ s.mem ((c : Thread nD τ).loc main_arg2) = V₂ m c main_arg2
        ∧ s.mem ((c : Thread nD τ).loc main_arg3) = V₂ m c main_arg3
        ∧ s.mem ((c : Thread nD τ).loc main_arg4) = V₂ m c main_arg4
        ∧ s.mem ((c : Thread nD τ).loc main_arg5) = V₂ m c main_arg5
        ∧ s.mem ((c : Thread nD τ).loc main_arg6) = V₂ m c main_arg6) ∧ s.sem (barCell c) = 0)
    (hfin := fun c s' => by
      dsimp only [Tₙ]; rw [bufs_eq]
      unfold pt
      iintro ⟨⟨⟨H0, H1, H2, H3, H4, H5, H6, H7⟩, Hb⟩, HSI⟩
      icombine HSI H0 gives %h0
      icombine HSI H1 gives %h1
      icombine HSI H2 gives %h2
      icombine HSI H3 gives %h3
      icombine HSI H4 gives %h4
      icombine HSI H5 gives %h5
      icombine HSI H6 gives %h6
      icombine HSI H7 gives %h7
      icombine HSI Hb gives %hb
      imodintro
      isplitr
      · ipureintro
        exact ⟨⟨Buf.eq_of_forall_mem_univ h7, Buf.eq_of_forall_mem_univ h0, Buf.eq_of_forall_mem_univ h1, Buf.eq_of_forall_mem_univ h2,
          Buf.eq_of_forall_mem_univ h3, Buf.eq_of_forall_mem_univ h4, Buf.eq_of_forall_mem_univ h5, Buf.eq_of_forall_mem_univ h6⟩, by simpa using hb⟩
      iexact HSI)
    (hQ := fun s h hs => ⟨fun c => by
        obtain ⟨⟨h7, h0, h1, h2, h3, h4, h5, h6⟩, -⟩ := h c
        exact ⟨h7.trans (V₂_out m c), h0.trans (V₂_arg m c (by decide) (V_main_arg0 m c)), h1.trans (V₂_arg m c (by decide) (V_main_arg1 m c)),
          h2.trans (V₂_arg m c (by decide) (V_main_arg2 m c)), h3.trans (V₂_arg m c (by decide) (V_main_arg3 m c)),
          h4.trans (V₂_arg m c (by decide) (V_main_arg4 m c)), h5.trans (V₂_arg m c (by decide) (V_main_arg5 m c)),
          h6.trans (V₂_arg m c (by decide) (V_main_arg6 m c))⟩,
      sem_eq_zero hs fun c sm hsm => by
        obtain rfl := unscoped_bar sm hsm
        exact (h c).2⟩)

end Cert.KernelIdeal

end
-- ==== Proof.KernelIdeal.Layer.lean ====
/-
  The mathematics of one layer over the extended reals: the kernel's layer on one device, the exchange as a sum over
  all sixteen devices, the reference's layer, and the cut of the reference's sum into the devices' parts.
-/
module

public import proofs.«01_k».proof.Proof.KernelIdeal.State
public import proofs.«01_k».proof.Proof.Gen.ReferenceIdeal.Run
public import Idealize.ShloMosaic.Lib.Pointwise

@[expose] public section

set_option maxRecDepth 16384

noncomputable section

namespace Cert.KernelIdeal

open Idealize.ShloMosaic Idealize.ShloMosaic.TcCoe
open Gen

/-- One layer applied to one row, read at column `l`: a product with `W`, `max 0`, a product with `U`. -/
def layerAt {K : ℕ} (v : Fin 512 → EReal) (W : Fin 512 → Fin K → EReal) (U : Fin K → Fin 512 → EReal) (l : Fin 512) : EReal :=
  ∑ k, max (∑ e, v e * W e k) 0 * U k l

/-- The kernel's layer on one device, at an index. -/
theorem mlp_apply (v : FVec Ideal S16x512 .f32) (w1 : Vec Ideal S512x1024 .bf16) (w2 : Vec Ideal S1024x512 .bf16)
    (r : Fin 16) (l : Fin 512) :
    mlp v w1 w2 (ix2 r l) = layerAt (fun e => v (ix2 r e)) (fun e k => w1 (ix2 e k)) (fun k l => w2 (ix2 k l)) l := by
  unfold mlp layerAt winAll woutAll
  pointwise [k0_pay7, k0_pay5, k0_pay6]

/-- A landed value added: over the extended reals, the sum. -/
theorem addIn_pack (v w : FVec Ideal S16x512 .f32) (y : S16x512.Idx) : addIn v (pack w) y = v y + w y := by
  idx_vars y
  unfold addIn pack
  pointwise

theorem gather_apply (v : Dev nD → Fin 4 → FVec Ideal S16x512 .f32) (o₁ o₂ o₃ : Fin 6) (c : Dev nD) (hf : Fin 4) (y : S16x512.Idx) :
    gather v o₁ o₂ o₃ c hf y = v c hf y + v (peer o₁ c) hf y + v (peer o₂ c) hf y + v (peer o₃ c) hf y := by
  unfold gather; simp only [addIn_pack]

/-- Where a value goes in the two rounds: first to one of four devices, then to one of four groups. -/
def reach (c : Dev nD) (q : Fin 4 × Fin 4) : Dev nD :=
  let b : Dev nD := ![c, peer 3 c, peer 4 c, peer 5 c] q.1
  ![b, peer 0 b, peer 1 b, peer 2 b] q.2

theorem reach_bijective (c : Dev nD) : Function.Bijective (reach c) := by
  have h : Function.Injective (reach c) := by
    intro p q; revert c p q; decide +kernel
  exact (Fintype.bijective_iff_injective_and_card _).mpr ⟨h, by decide⟩

/-- The two rounds together: every device ends with the sum over all sixteen. -/
theorem gather_gather (v : Dev nD → Fin 4 → FVec Ideal S16x512 .f32) (c : Dev nD) (hf : Fin 4) (y : S16x512.Idx) :
    gather (gather v 0 1 2) 3 4 5 c hf y = ∑ d : Dev nD, v d hf y := by
  rw [← (reach_bijective c).sum_comp fun d => v d hf y, Fintype.sum_prod_type]
  simp only [gather_apply, Fin.sum_univ_four]
  rfl

/-- The reference's layer. -/
def refLayer (x : FVec Ideal Cert.ReferenceIdeal.S64x512 .bf16) (W : FVec Ideal Cert.ReferenceIdeal.S512x16384 .bf16)
    (U : FVec Ideal Cert.ReferenceIdeal.S16384x512 .bf16) : FVec Ideal Cert.ReferenceIdeal.S64x512 .bf16 :=
  truncf .bf16 (Host.dotGeneral Cert.ReferenceIdeal.dot_S64x16384_S16384x512_S64x512_1_0_0_1_n_n none
    (maximumf (truncf .bf16 (Host.dotGeneral Cert.ReferenceIdeal.dot_S64x512_S512x16384_S64x16384_1_0_0_1_n_n none x W)
        Cert.ReferenceIdeal.Gen.facts.bitsLt_bf16_f32)
      (broadcastInDim Cert.ReferenceIdeal.S64x16384 ![] Cert.ReferenceIdeal.Gen.facts.bcast_S_S64x16384 (constant Cert.ReferenceIdeal.S_ .bf16 0x0000#16))) U)
    Cert.ReferenceIdeal.Gen.facts.bitsLt_bf16_f32

theorem refLayer_apply (x : FVec Ideal Cert.ReferenceIdeal.S64x512 .bf16) (W : FVec Ideal Cert.ReferenceIdeal.S512x16384 .bf16)
    (U : FVec Ideal Cert.ReferenceIdeal.S16384x512 .bf16) (i : Fin 64) (l : Fin 512) :
    refLayer x W U (ix2 i l) = layerAt (fun e => x (ix2 i e)) (fun e k => W (ix2 e k)) (fun k l => U (ix2 k l)) l := by
  unfold refLayer layerAt
  pointwise

/-- Hidden unit `k` of device `d`'s part, numbered in the whole. -/
def unitOf (d : Fin 16) (k : Fin 1024) : Fin 16384 := ⟨d.val * 1024 + k.val, by omega⟩

/-- A layer over all the hidden units is the sum of the layers over the devices' parts. -/
theorem layerAt_blocks (v : Fin 512 → EReal) (W : Fin 512 → Fin 16384 → EReal) (U : Fin 16384 → Fin 512 → EReal) (l : Fin 512) :
    ∑ d : Fin 16, layerAt v (fun e k => W e (unitOf d k)) (fun k l => U (unitOf d k) l) l = layerAt v W U l := by
  unfold layerAt
  rw [← (finProdFinEquiv (m := 16) (n := 1024)).sum_comp, Fintype.sum_prod_type]
  have h (d : Fin 16) (k : Fin 1024) : finProdFinEquiv (d, k) = unitOf d k := Fin.ext (by
    show k.val + 1024 * d.val = d.val * 1024 + k.val; omega)
  simp only [h]

end Cert.KernelIdeal

end
-- ==== Proof.KernelIdeal.Value.lean ====
/-
  The kernel's result over the extended reals is the reference's: each layer with its two rounds of exchange is the
  reference's layer on every row quarter, three times over.
-/
module

public import proofs.«01_k».proof.Proof.KernelIdeal.Layer
public import Idealize.ShloMosaic.Lib.Layout

@[expose] public section

set_option maxRecDepth 16384

noncomputable section

namespace Cert.KernelIdeal

open Idealize.ShloMosaic Idealize.ShloMosaic.TcCoe
open Gen

/-- Row `r` of quarter `hf`, in the whole. -/
def rowAt (hf : Fin 4) (r : Fin 16) : Fin 64 := ⟨16 * hf.val + r.val, by omega⟩

/-- Every device holds, in every quarter, the rows of `y`. -/
def Holds (v : Dev nD → Fin 4 → FVec Ideal S16x512 .f32) (y : FVec Ideal Cert.ReferenceIdeal.S64x512 .bf16) : Prop :=
  ∀ (c : Dev nD) (hf : Fin 4) (r : Fin 16) (l : Fin 512), v c hf (ix2 r l) = y (ix2 (rowAt hf r) l)

/-- One layer of the kernel, with its exchange, is one layer of the reference. -/
theorem holds_layer {v : Dev nD → Fin 4 → FVec Ideal S16x512 .f32} {y : FVec Ideal Cert.ReferenceIdeal.S64x512 .bf16}
    (hv : Holds v y) (w1 : Dev nD → Vec Ideal S512x1024 .bf16) (w2 : Dev nD → Vec Ideal S1024x512 .bf16)
    (W : FVec Ideal Cert.ReferenceIdeal.S512x16384 .bf16) (U : FVec Ideal Cert.ReferenceIdeal.S16384x512 .bf16)
    (hW : ∀ c, w1 c = Layout.block ⟨2, ![512, 1024]⟩ ⟨2, ![512, 16384]⟩ 1 16 c W)
    (hU : ∀ c, w2 c = Layout.block ⟨2, ![1024, 512]⟩ ⟨2, ![16384, 512]⟩ 0 16 c U) :
    Holds (gather (gather (fun c hf => mlp (v c hf) (w1 c) (w2 c)) 0 1 2) 3 4 5) (refLayer y W U) := by
  intro c hf r l
  rw [gather_gather, refLayer_apply, ← layerAt_blocks]
  refine Finset.sum_congr rfl fun d _ => ?_
  rw [mlp_apply]
  have h1 : (fun e => v d hf (ix2 r e)) = fun e => y (ix2 (rowAt hf r) e) := funext fun e => hv d hf r e
  have h2 : (fun e k => w1 d (ix2 e k)) = fun (e : Fin 512) (k : Fin 1024) => W (ix2 e (unitOf d k)) := by
    funext e k
    rw [hW, Layout.block_apply]
    refine congrArg W (funext fun a => ?_)
    fin_cases a <;> rfl
  have h3 : (fun k l => w2 d (ix2 k l)) = fun (k : Fin 1024) (l : Fin 512) => U (ix2 (unitOf d k) l) := by
    funext k l
    rw [hU, Layout.block_apply]
    refine congrArg U (funext fun a => ?_)
    fin_cases a <;> rfl
  rw [h1, h2, h3]

/-- The rows as the kernel loads them. -/
theorem holds_rows (I : In Ideal) (x : FVec Ideal S64x512 .f32) (hx : ∀ c, I.x c = x) :
    Holds (fun c hf => k0_pay1 (rowsOf (I.x c) hf)) (truncf .bf16 x Cert.ReferenceIdeal.Gen.facts.bitsLt_bf16_f32) := by
  intro c hf r l
  show k0_pay1 (rowsOf (I.x c) hf) (ix2 r l) = _
  rw [hx]
  unfold rowsOf
  pointwise [k0_pay1]
  refine congrArg x (funext fun a => ?_)
  fin_cases a <;> rfl

/-- The result on every device is the reference's. -/
theorem outX_eq (I : In Ideal) (x : FVec Ideal S64x512 .f32) (W : Fin 3 → FVec Ideal Cert.ReferenceIdeal.S512x16384 .bf16)
    (U : Fin 3 → FVec Ideal Cert.ReferenceIdeal.S16384x512 .bf16) (hx : ∀ c, I.x c = x)
    (hW : ∀ k c, I.win k c = Layout.block ⟨2, ![512, 1024]⟩ ⟨2, ![512, 16384]⟩ 1 16 c (W k))
    (hU : ∀ k c, I.wout k c = Layout.block ⟨2, ![1024, 512]⟩ ⟨2, ![16384, 512]⟩ 0 16 c (U k)) (c : Dev nD) :
    outX I c = extf .f32
      (refLayer (refLayer (refLayer (truncf .bf16 x Cert.ReferenceIdeal.Gen.facts.bitsLt_bf16_f32) (W 0) (U 0)) (W 1) (U 1)) (W 2) (U 2))
      Cert.ReferenceIdeal.Gen.facts.bitsLt_bf16_f32 := by
  have h0 := holds_layer (holds_rows I x hx) (I.win 0) (I.wout 0) (W 0) (U 0) (hW 0) (hU 0)
  have h1 := holds_layer h0 (I.win 1) (I.wout 1) (W 1) (U 1) (hW 1) (hU 1)
  have h2 := holds_layer h1 (I.win 2) (I.wout 2) (W 2) (U 2) (hW 2) (hU 2)
  funext i
  have hi : (i (0 : Fin 2)).val < 64 := (i (0 : Fin 2)).isLt
  have hd : (i (0 : Fin 2)).val / 16 < 4 := by omega
  have e1 : rowIdx i = ix2 (⟨(i (0 : Fin 2)).val % 16, Nat.mod_lt _ (by decide)⟩ : Fin 16) (i (1 : Fin 2)) := funext fun a => by
    fin_cases a <;> rfl
  have e2 : i = ix2 (rowAt ⟨(i (0 : Fin 2)).val / 16, hd⟩ ⟨(i (0 : Fin 2)).val % 16, Nat.mod_lt _ (by decide)⟩) (i (1 : Fin 2)) := by
    funext a
    fin_cases a
    · exact Fin.ext (show (i (0 : Fin 2)).val = 16 * ((i (0 : Fin 2)).val / 16) + (i (0 : Fin 2)).val % 16 by omega)
    · rfl
  have e := h2 c ⟨(i (0 : Fin 2)).val / 16, hd⟩ ⟨(i (0 : Fin 2)).val % 16, Nat.mod_lt _ (by decide)⟩ (i (1 : Fin 2))
  exact (congrArg (outv I c ⟨(i (0 : Fin 2)).val / 16, hd⟩) e1).trans (e.trans (congrArg (refLayer _ _ _) e2.symm))

end Cert.KernelIdeal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.KernelIdeal.Value
public import Idealize.ShloMosaic.Adequacy
public import Idealize.ShloMosaic.Init

@[expose] public section

noncomputable section

namespace Cert.Proof

open Idealize.ShloMosaic Idealize.SL.Sem Cert.Kernel

/-- Every execution of the kernel ends, with the arguments unchanged and every counter at zero. -/
theorem kernel_frame : Cert.quiescent_Kernel (hKernel := Cert.Kernel.Gen.facts) :=
  fun m g _ => (θ_run _ _ _).mono (fun _ h => ⟨fun c => (h.1 c).2, h.2⟩) (Cert.Kernel.run_main m g)

/-- The same over the extended reals. -/
theorem kernelIdeal_frame : Cert.quiescent_KernelIdeal (hKernelIdeal := Cert.KernelIdeal.Gen.facts) :=
  fun m g _ => (θ_run _ _ _).mono (fun _ h => ⟨fun c => (h.1 c).2, h.2⟩) (Cert.KernelIdeal.run_main m g)

/-- The reference has no counter, and leaves its arguments unchanged. -/
theorem reference_frame : Cert.quiescent_ReferenceIdeal (hReferenceIdeal := Cert.ReferenceIdeal.Gen.facts) :=
  fun m g _ => (θ_run _ _ _).mono (fun r h => ⟨fun c => (h c).2, sem_eq_zero_of_no_sems (by decide) r.2⟩)
    (Cert.ReferenceIdeal.Value.run m g)

/-- Over the extended reals every device's result is the reference's. -/
theorem kernel_value : Cert.algebraic_KernelIdeal_ReferenceIdeal (hKernelIdeal := Cert.KernelIdeal.Gen.facts)
    (hReferenceIdeal := Cert.ReferenceIdeal.Gen.facts) := by
  intro m g m' g' _ hA
  refine ⟨_, (θ_run _ _ _).mono (fun _ h c => ⟨(h.1 c).1.trans ?_, (h.1 c).2⟩) (Cert.KernelIdeal.run_main m g),
    (θ_run _ _ _).mono (fun _ h => h 0) (Cert.ReferenceIdeal.Value.run m' g')⟩
  refine (Cert.KernelIdeal.outX_eq (Cert.KernelIdeal.inp m) _ ![_, _, _] ![_, _, _] (fun c => (hA c).1) ?_ ?_ c).trans rfl
  · intro k c; fin_cases k
    · exact (hA c).2.1
    · exact (hA c).2.2.1
    · exact (hA c).2.2.2.1
  · intro k c; fin_cases k
    · exact (hA c).2.2.2.2.1
    · exact (hA c).2.2.2.2.2.1
    · exact (hA c).2.2.2.2.2.2

/-- All the claims. -/
theorem claim : Cert.Claim :=
  ⟨Cert.Kernel.Gen.facts, Cert.KernelIdeal.Gen.facts, Cert.ReferenceIdeal.Gen.facts,
    kernel_frame, kernelIdeal_frame, reference_frame, trivial, kernel_value⟩

end Cert.Proof

end
